-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 4, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 1]⟩ ⟨2, ![1024, 1]⟩ (Layout.meshBlock [2, 4, 4] ![[0], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨3, ![2, 512, 1024]⟩ ⟨3, ![4, 512, 1024]⟩ (Layout.meshBlock [2, 4, 4] ![[0], [], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨3, ![2, 1024, 512]⟩ ⟨3, ![4, 1024, 512]⟩ (Layout.meshBlock [2, 4, 4] ![[0], [], []] c) (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![1024, 512]⟩ (Layout.meshBlock [2, 4, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512x1 : Shape := ⟨2, ![512, 1]⟩
abbrev S2x512x1024 : Shape := ⟨3, ![2, 512, 1024]⟩
abbrev S2x1024x512 : Shape := ⟨3, ![2, 1024, 512]⟩
abbrev S256x512 : Shape := ⟨2, ![256, 512]⟩
abbrev S256x640 : Shape := ⟨2, ![256, 640]⟩
abbrev S6 : Shape := ⟨1, ![6]⟩
abbrev S4 : Shape := ⟨1, ![4]⟩
abbrev S_ : Shape := ⟨0, ![]⟩
abbrev S1 : Shape := ⟨1, ![1]⟩
abbrev S128x512 : Shape := ⟨2, ![128, 512]⟩
abbrev S256x1 : Shape := ⟨2, ![256, 1]⟩
abbrev S128x640 : Shape := ⟨2, ![128, 640]⟩
abbrev S1x512x1024 : Shape := ⟨3, ![1, 512, 1024]⟩
abbrev S512x1024 : Shape := ⟨2, ![512, 1024]⟩
abbrev S1x1024x512 : Shape := ⟨3, ![1, 1024, 512]⟩
abbrev S1024x512 : Shape := ⟨2, ![1024, 512]⟩
abbrev S128x1 : Shape := ⟨2, ![128, 1]⟩
abbrev S128x1024 : Shape := ⟨2, ![128, 1024]⟩

abbrev nBuf : Space → Nat
  | .hbm => 5
  | .vmem => 11
  | .smem => 0
  | _ => 0

abbrev bufTy : (tb : Table) → Fin (tcTables nBuf tb) → BufTy
  | .hbm, ⟨0, _⟩ => ⟨S512x512, .f32⟩
  | .hbm, ⟨1, _⟩ => ⟨S512x1, .i32⟩
  | .hbm, ⟨2, _⟩ => ⟨S2x512x1024, .f32⟩
  | .hbm, ⟨3, _⟩ => ⟨S2x1024x512, .f32⟩
  | .hbm, ⟨4, _⟩ => ⟨S512x512, .f32⟩
  | .local _ .vmem, ⟨0, _⟩ => ⟨S512x1, .i32⟩
  | .local _ .vmem, ⟨1, _⟩ => ⟨S512x512, .f32⟩
  | .local _ .vmem, ⟨2, _⟩ => ⟨S2x512x1024, .f32⟩
  | .local _ .vmem, ⟨3, _⟩ => ⟨S2x1024x512, .f32⟩
  | .local _ .vmem, ⟨4, _⟩ => ⟨S256x512, .f32⟩
  | .local _ .vmem, ⟨5, _⟩ => ⟨S256x640, .bf16⟩
  | .local _ .vmem, ⟨6, _⟩ => ⟨S256x640, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 2 → Bool
  | ⟨0, _⟩ => true
  | ⟨1, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 2 18 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_scratch7 : Ref sig .tc := ⟨.vmem, 9, rfl⟩
abbrev cc0_scratch8 : Ref sig .tc := ⟨.vmem, 10, rfl⟩
abbrev cc0_sem0_0 : DmaSem sig := 0
abbrev cc0_sem1_0 : DmaSem sig := 1
abbrev barrier0 : Sem sig := 1

abbrev nD : Nat := 32
abbrev τ : Topo := Topo.v7x

variable {F : FTy → Type} [FloatOps F]

abbrev grid0 : Pipeline.Grid := .none

def k0_off1 (d0 : Dev nD) (c0_i32_11 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c256_i32 : BitVec 32 := 256#32
  let v21 : BitVec 32 := Scalar.muli v20 c256_i32
  let v24 : BitVec 32 := Scalar.addi v21 c0_i32_11
  let c0_i32_15 : BitVec 32 := 0#32
  ![v24.toNat, 0]
def k0_dev1 (d0 : Dev nD) : Nat :=
  let c0_i32_23 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_22 : BitVec 32 := 16#32
  let v39 : BitVec 32 := Scalar.muli v9 c16_i32_22
  let v40 : BitVec 32 := Scalar.addi c0_i32_23 v39
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_24 : BitVec 32 := 4#32
  let v41 : BitVec 32 := Scalar.muli v5 c4_i32_24
  let v42 : BitVec 32 := Scalar.addi v40 v41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v43 : BitVec 32 := Scalar.muli v8 c1_i32_25
  let v44 : BitVec 32 := Scalar.addi v42 v43
  v44.toNat
def k0_dev2 (d0 : Dev nD) : Nat :=
  let c0_i32_28 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_27 : BitVec 32 := 16#32
  let v45 : BitVec 32 := Scalar.muli v2 c16_i32_27
  let v46 : BitVec 32 := Scalar.addi c0_i32_28 v45
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_29 : BitVec 32 := 4#32
  let v47 : BitVec 32 := Scalar.muli v5 c4_i32_29
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.xori v8 c1_i32_3
  let c1_i32_30 : BitVec 32 := 1#32
  let v49 : BitVec 32 := Scalar.muli v10 c1_i32_30
  let v50 : BitVec 32 := Scalar.addi v48 v49
  v50.toNat
def k0_off2 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c256_i32 : BitVec 32 := 256#32
  let v21 : BitVec 32 := Scalar.muli v20 c256_i32
  let v51 : Index := Scalar.indexCast v21
  let c0 : Index := 0#32
  ![v51.toNat, 0]
def k0_dev3 (d0 : Dev nD) : Nat :=
  let c0_i32_44 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_43 : BitVec 32 := 16#32
  let v67 : BitVec 32 := Scalar.muli v9 c16_i32_43
  let v68 : BitVec 32 := Scalar.addi c0_i32_44 v67
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_45 : BitVec 32 := 4#32
  let v69 : BitVec 32 := Scalar.muli v5 c4_i32_45
  let v70 : BitVec 32 := Scalar.addi v68 v69
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_46 : BitVec 32 := 1#32
  let v71 : BitVec 32 := Scalar.muli v8 c1_i32_46
  let v72 : BitVec 32 := Scalar.addi v70 v71
  v72.toNat
def k0_dev4 (d0 : Dev nD) : Nat :=
  let c0_i32_61 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_60 : BitVec 32 := 16#32
  let v88 : BitVec 32 := Scalar.muli v9 c16_i32_60
  let v89 : BitVec 32 := Scalar.addi c0_i32_61 v88
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_62 : BitVec 32 := 4#32
  let v90 : BitVec 32 := Scalar.muli v5 c4_i32_62
  let v91 : BitVec 32 := Scalar.addi v89 v90
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_63 : BitVec 32 := 1#32
  let v92 : BitVec 32 := Scalar.muli v8 c1_i32_63
  let v93 : BitVec 32 := Scalar.addi v91 v92
  v93.toNat
def k0_dev5 (d0 : Dev nD) : Nat :=
  let c0_i32_129 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_128 : BitVec 32 := 16#32
  let v200 : BitVec 32 := Scalar.muli v9 c16_i32_128
  let v201 : BitVec 32 := Scalar.addi c0_i32_129 v200
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_130 : BitVec 32 := 4#32
  let v202 : BitVec 32 := Scalar.muli v5 c4_i32_130
  let v203 : BitVec 32 := Scalar.addi v201 v202
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_131 : BitVec 32 := 1#32
  let v204 : BitVec 32 := Scalar.muli v8 c1_i32_131
  let v205 : BitVec 32 := Scalar.addi v203 v204
  v205.toNat
def k0_dev6 (d0 : Dev nD) : Nat :=
  let c0_i32_168 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_167 : BitVec 32 := 16#32
  let v261 : BitVec 32 := Scalar.muli v9 c16_i32_167
  let v262 : BitVec 32 := Scalar.addi c0_i32_168 v261
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_169 : BitVec 32 := 4#32
  let v263 : BitVec 32 := Scalar.muli v5 c4_i32_169
  let v264 : BitVec 32 := Scalar.addi v262 v263
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_170 : BitVec 32 := 1#32
  let v265 : BitVec 32 := Scalar.muli v8 c1_i32_170
  let v266 : BitVec 32 := Scalar.addi v264 v265
  v266.toNat
def k0_off3 (d0 : Dev nD) (c0_i32_206 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let c256_i32 : BitVec 32 := 256#32
  let v21 : BitVec 32 := Scalar.muli v20 c256_i32
  let v321 : BitVec 32 := Scalar.addi v21 c0_i32_206
  let v322 : Index := Scalar.indexCast v321
  let c0_207 : Index := 0#32
  ![v322.toNat, 0]
def k0_dev7 (d0 : Dev nD) : Nat :=
  let c0_i32_213 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_212 : BitVec 32 := 16#32
  let v328 : BitVec 32 := Scalar.muli v2 c16_i32_212
  let v329 : BitVec 32 := Scalar.addi c0_i32_213 v328
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_214 : BitVec 32 := 4#32
  let v330 : BitVec 32 := Scalar.muli v5 c4_i32_214
  let v331 : BitVec 32 := Scalar.addi v329 v330
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.xori v8 c1_i32_3
  let c1_i32_215 : BitVec 32 := 1#32
  let v332 : BitVec 32 := Scalar.muli v10 c1_i32_215
  let v333 : BitVec 32 := Scalar.addi v331 v332
  v333.toNat
def k0_dev8 (d0 : Dev nD) : Nat :=
  let c0_i32_238 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_237 : BitVec 32 := 16#32
  let v360 : BitVec 32 := Scalar.muli v2 c16_i32_237
  let v361 : BitVec 32 := Scalar.addi c0_i32_238 v360
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_239 : BitVec 32 := 4#32
  let v362 : BitVec 32 := Scalar.muli v5 c4_i32_239
  let v363 : BitVec 32 := Scalar.addi v361 v362
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_3 : BitVec 32 := 1#32
  let v10 : BitVec 32 := Scalar.xori v8 c1_i32_3
  let c1_i32_240 : BitVec 32 := 1#32
  let v364 : BitVec 32 := Scalar.muli v10 c1_i32_240
  let v365 : BitVec 32 := Scalar.addi v363 v364
  v365.toNat
def k0_off4 (d0 : Dev nD) (c0_i32_257 : BitVec 32) : Fin 2 → Nat :=
  let c1_i32_9 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_4 : BitVec 32 := 2#32
  let c0_i32 : BitVec 32 := 0#32
  let v11 : BitVec 1 := Scalar.cmpi .eq c2_i32_4 c0_i32
  let c1_i32_5 : BitVec 32 := 1#32
  let v12 : BitVec 32 := Scalar.select v11 c1_i32_5 c2_i32_4
  let v13 : BitVec 32 := Scalar.remsi v8 v12
  let c0_i32_7 : BitVec 32 := 0#32
  let v15 : BitVec 1 := Scalar.cmpi .slt v13 c0_i32_7
  let c0_i32_8 : BitVec 32 := 0#32
  let v16 : BitVec 1 := Scalar.cmpi .slt v12 c0_i32_8
  let v17 : BitVec 1 := Scalar.xori v15 v16
  let c0_i32_6 : BitVec 32 := 0#32
  let v14 : BitVec 1 := Scalar.cmpi .ne v13 c0_i32_6
  let v18 : BitVec 1 := Scalar.andi v17 v14
  let v19 : BitVec 32 := Scalar.addi v13 v12
  let v20 : BitVec 32 := Scalar.select v18 v19 v13
  let v22 : BitVec 32 := Scalar.subi c1_i32_9 v20
  let c256_i32_10 : BitVec 32 := 256#32
  let v23 : BitVec 32 := Scalar.muli v22 c256_i32_10
  let v384 : BitVec 32 := Scalar.addi v23 c0_i32_257
  let v385 : Index := Scalar.indexCast v384
  let c0_258 : Index := 0#32
  ![v385.toNat, 0]
abbrev stage0_0 : Fin 1 → Memref sig .tc .vmem S512x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1024x512 : Shape := ⟨2, ![1024, 512]⟩
abbrev S1024x1 : Shape := ⟨2, ![1024, 1]⟩
abbrev S4x512x1024 : Shape := ⟨3, ![4, 512, 1024]⟩
abbrev S4x1024x512 : Shape := ⟨3, ![4, 1024, 512]⟩
abbrev S_ : Shape := ⟨0, ![]⟩
abbrev S1x512x1024 : Shape := ⟨3, ![1, 512, 1024]⟩
abbrev S512x1024 : Shape := ⟨2, ![512, 1024]⟩
abbrev S1024x1024 : Shape := ⟨2, ![1024, 1024]⟩
abbrev S1x1024x512 : Shape := ⟨3, ![1, 1024, 512]⟩

abbrev nBuf : Space → Nat
  | .hbm => 62
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x1, .i32⟩
  | .hbm, ⟨2, _⟩ => ⟨S4x512x1024, .f32⟩
  | .hbm, ⟨3, _⟩ => ⟨S4x1024x512, .f32⟩
  | .hbm, ⟨4, _⟩ => ⟨S_, .f32⟩
  | .hbm, ⟨5, _⟩ => ⟨S1024x512, .f32⟩
  | .hbm, ⟨6, _⟩ => ⟨S_, .i32⟩
  | .hbm, ⟨7, _⟩ => ⟨S1024x1, .i32⟩
  | .hbm, ⟨8, _⟩ => ⟨S1024x1, .i1⟩
  | .hbm, ⟨9, _⟩ => ⟨S1x512x1024, .f32⟩
  | .hbm, ⟨10, _⟩ => ⟨S512x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S1x1024x512, .f32⟩
  | .hbm, ⟨16, _⟩ => ⟨S1024x512, .f32⟩
  | .hbm, ⟨17, _⟩ => ⟨S1024x512, .f32⟩
  | .hbm, ⟨18, _⟩ => ⟨S1024x512, .i1⟩
  | .hbm, ⟨19, _⟩ => ⟨S1024x512, .f32⟩
  | .hbm, ⟨20, _⟩ => ⟨S_, .i32⟩
  | .hbm, ⟨21, _⟩ => ⟨S1024x1, .i32⟩
  | .hbm, ⟨22, _⟩ => ⟨S1024x1, .i1⟩
  | .hbm, ⟨23, _⟩ => ⟨S1x512x1024, .f32⟩
  | .hbm, ⟨24, _⟩ => ⟨S512x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1x1024x512, .f32⟩
  | .hbm, ⟨30, _⟩ => ⟨S1024x512, .f32⟩
  | .hbm, ⟨31, _⟩ => ⟨S1024x512, .f32⟩
  | .hbm, ⟨32, _⟩ => ⟨S1024x512, .i1⟩
  | .hbm, ⟨33, _⟩ => ⟨S1024x512, .f32⟩
  | .hbm, ⟨34, _⟩ => ⟨S_, .i32⟩
  | .hbm, ⟨35, _⟩ => ⟨S1024x1, .i32⟩
  | .hbm, ⟨36, _⟩ => ⟨S1024x1, .i1⟩
  | .hbm, ⟨37, _⟩ => ⟨S1x512x1024, .f32⟩
  | .hbm, ⟨38, _⟩ => ⟨S512x1024, .f32⟩
  | .hbm, ⟨39, _⟩ => ⟨S1024x1024, .f32⟩
  | .hbm, ⟨40, _⟩ => ⟨S_, .f32⟩
  | .hbm, ⟨41, _⟩ => ⟨S1024x1024, .f32⟩
  | .hbm, ⟨42, _⟩ => ⟨S1024x1024, .f32⟩
  | .hbm, ⟨43, _⟩ => ⟨S1x1024x512, .f32⟩
  | .hbm, ⟨44, _⟩ => ⟨S1024x512, .f32⟩
  | .hbm, ⟨45, _⟩ => ⟨S1024x512, .f32⟩
  | .hbm, ⟨46, _⟩ => ⟨S1024x512, .i1⟩
  | .hbm, ⟨47, _⟩ => ⟨S1024x512, .f32⟩
  | .hbm, ⟨48, _⟩ => ⟨S_, .i32⟩
  | .hbm, ⟨49, _⟩ => ⟨S1024x1, .i32⟩
  | .hbm, ⟨50, _⟩ => ⟨S1024x1, .i1⟩
  | .hbm, ⟨51, _⟩ => ⟨S1x512x1024, .f32⟩
  | .hbm, ⟨52, _⟩ => ⟨S512x1024, .f32⟩
  | .hbm, ⟨53, _⟩ => ⟨S1024x1024, .f32⟩
  | .hbm, ⟨54, _⟩ => ⟨S_, .f32⟩
  | .hbm, ⟨55, _⟩ => ⟨S1024x1024, .f32⟩
  | .hbm, ⟨56, _⟩ => ⟨S1024x1024, .f32⟩
  | .hbm, ⟨57, _⟩ => ⟨S1x1024x512, .f32⟩
  | .hbm, ⟨58, _⟩ => ⟨S1024x512, .f32⟩
  | .hbm, ⟨59, _⟩ => ⟨S1024x512, .f32⟩
  | .hbm, ⟨60, _⟩ => ⟨S1024x512, .i1⟩
  | .hbm, ⟨61, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_v0 : Ref sig .tc := ⟨.hbm, 18, rfl⟩
abbrev main_v11 : Ref sig .tc := ⟨.hbm, 19, rfl⟩
abbrev main_c_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_call1_v0 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_call2_v0 : Ref sig .tc := ⟨.hbm, 46, rfl⟩
abbrev main_v33 : Ref sig .tc := ⟨.hbm, 47, rfl⟩
abbrev main_c_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_call3_v0 : Ref sig .tc := ⟨.hbm, 60, rfl⟩
abbrev main_v44 : Ref sig .tc := ⟨.hbm, 61, rfl⟩

abbrev nD : Nat := 1
abbrev τ : Topo := Topo.v7x

variable {F : FTy → Type} [FloatOps F]
-- ==== Proof.Protocol.lean ====
/-
The protocol of the kernel: who waits on which semaphore, who pays it, how much, and what each payment hands over.

A device exchanges with two others: its PEER (the other value of the mesh axis `x`, same `y` and `z`), which holds the
other half of the experts, and its BUDDY (the same `x` and `y`, `z` with its lowest bit flipped), which computes the other
half of the rows. Each of the 18 semaphores is used once, as one cell of one duty in one round:

* 0, the barrier: paid by the peer with one signal; hands over the peer's two landing buffers (rows of tokens, rows of
  results), chunk by chunk.
* 1, the buddy's ready signal: paid by the buddy; hands over the buddy's landing buffer of finished rows.
* 2, 3: the landing of the peer's token chunks, holding the peer's rounded tokens and their expert numbers.
* 4, 5: the landing of what the peer's experts made of this device's chunks.
* 6, 7: the landing of the buddy's finished chunks.
* 8 to 13: the six sends' own completions; they give the source back.
* 14 to 17: the four copies from the arguments into scratch: both weight arrays, the two chunks of rows.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy, and the exchange's cells (one duty each) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The mesh: peer and buddy -/

set_option backward.proofsInPublic true in
/-- The device across axis `x`: sixteen further round the 32. -/
def peer (c : Dev nD) : Dev nD := ⟨(c.val + 16) % 32, Nat.mod_lt _ (by decide)⟩
set_option backward.proofsInPublic true in
/-- The device whose `z` differs in its lowest bit: the neighbour in the pair. -/
def buddy (c : Dev nD) : Dev nD := ⟨(c.val / 2 * 2 + (1 - c.val % 2)) % 32, Nat.mod_lt _ (by decide)⟩

theorem peer_peer (c : Dev nD) : peer (peer c) = c := by revert c; decide
theorem buddy_buddy (c : Dev nD) : buddy (buddy c) = c := by revert c; decide

theorem dev1_eq (c : Dev nD) : (⟨k0_dev1 c, k0_dev1_lt c⟩ : Dev nD) = peer c := by revert c; decide +kernel
theorem dev2_eq (c : Dev nD) : (⟨k0_dev2 c, k0_dev2_lt c⟩ : Dev nD) = buddy c := by revert c; decide +kernel
theorem dev3_eq (c : Dev nD) : (⟨k0_dev3 c, k0_dev3_lt c⟩ : Dev nD) = peer c := by revert c; decide +kernel
theorem dev4_eq (c : Dev nD) : (⟨k0_dev4 c, k0_dev4_lt c⟩ : Dev nD) = peer c := by revert c; decide +kernel
theorem dev5_eq (c : Dev nD) : (⟨k0_dev5 c, k0_dev5_lt c⟩ : Dev nD) = peer c := by revert c; decide +kernel
theorem dev6_eq (c : Dev nD) : (⟨k0_dev6 c, k0_dev6_lt c⟩ : Dev nD) = peer c := by revert c; decide +kernel
theorem dev7_eq (c : Dev nD) : (⟨k0_dev7 c, k0_dev7_lt c⟩ : Dev nD) = buddy c := by revert c; decide +kernel
theorem dev8_eq (c : Dev nD) : (⟨k0_dev8 c, k0_dev8_lt c⟩ : Dev nD) = buddy c := by revert c; decide +kernel

/-! ## The cells -/

/-- The runtime's barrier semaphore. -/
abbrev barS : Sem sig := (SemArray.scalar (sig.barrier 0 rfl) : Sems sig S_).sem

/-- The semaphore of each of the 18 cells. -/
abbrev csem : Fin 18 → SemLoc sig := fun
  | 0 => .reg barS
  | 1 => .reg cc0_scratch12.sem
  | 2 => .dma ((cc0_scratch10.slice (Rect.unit (s := S6) ![0] S1.size inb_S6_S1_0)).squeeze S_ squeezes_S1_S_).sem
  | 3 => .dma ((cc0_scratch10.slice (Rect.unit (s := S6) ![1] S1.size inb_S6_S1_1)).squeeze S_ squeezes_S1_S_).sem
  | 4 => .dma ((cc0_scratch10.slice (Rect.unit (s := S6) ![2] S1.size inb_S6_S1_2)).squeeze S_ squeezes_S1_S_).sem
  | 5 => .dma ((cc0_scratch10.slice (Rect.unit (s := S6) ![3] S1.size inb_S6_S1_3)).squeeze S_ squeezes_S1_S_).sem
  | 6 => .dma ((cc0_scratch10.slice (Rect.unit (s := S6) ![4] S1.size inb_S6_S1_4)).squeeze S_ squeezes_S1_S_).sem
  | 7 => .dma ((cc0_scratch10.slice (Rect.unit (s := S6) ![5] S1.size inb_S6_S1_5)).squeeze S_ squeezes_S1_S_).sem
  | 8 => .dma ((cc0_scratch9.slice (Rect.unit (s := S6) ![0] S1.size inb_S6_S1_0)).squeeze S_ squeezes_S1_S_).sem
  | 9 => .dma ((cc0_scratch9.slice (Rect.unit (s := S6) ![1] S1.size inb_S6_S1_1)).squeeze S_ squeezes_S1_S_).sem
  | 10 => .dma ((cc0_scratch9.slice (Rect.unit (s := S6) ![2] S1.size inb_S6_S1_2)).squeeze S_ squeezes_S1_S_).sem
  | 11 => .dma ((cc0_scratch9.slice (Rect.unit (s := S6) ![3] S1.size inb_S6_S1_3)).squeeze S_ squeezes_S1_S_).sem
  | 12 => .dma ((cc0_scratch9.slice (Rect.unit (s := S6) ![4] S1.size inb_S6_S1_4)).squeeze S_ squeezes_S1_S_).sem
  | 13 => .dma ((cc0_scratch9.slice (Rect.unit (s := S6) ![5] S1.size inb_S6_S1_5)).squeeze S_ squeezes_S1_S_).sem
  | 14 => .dma ((cc0_scratch11.slice (Rect.unit (s := S4) ![0] S1.size inb_S4_S1_0)).squeeze S_ squeezes_S1_S_).sem
  | 15 => .dma ((cc0_scratch11.slice (Rect.unit (s := S4) ![1] S1.size inb_S4_S1_1)).squeeze S_ squeezes_S1_S_).sem
  | 16 => .dma ((cc0_scratch11.slice (Rect.unit (s := S4) ![2] S1.size inb_S4_S1_2)).squeeze S_ squeezes_S1_S_).sem
  | _ => .dma ((cc0_scratch11.slice (Rect.unit (s := S4) ![3] S1.size inb_S4_S1_3)).squeeze S_ squeezes_S1_S_).sem

abbrev kcell (ck : Dev nD × Fin 18) : GSem nD τ sig := ((ck.1 : Thread nD τ), csem ck.2)

theorem csem_inj : Function.Injective csem := by decide +kernel

theorem kcell_inj : Function.Injective kcell := fun a b h => by
  have h1 : a.1 = b.1 := by simpa using congrArg (fun g : GSem nD τ sig => g.1.1) h
  exact Prod.ext h1 (csem_inj (congrArg Prod.snd h))

/-- The cell a semaphore is, if any. -/
def kof (sm : SemLoc sig) : Option (Fin 18) := (List.finRange 18).find? fun k => decide (csem k = sm)

theorem kof_csem (k : Fin 18) : kof (csem k) = some k := by revert k; decide +kernel

/-- Who pays a device's cell: the peer, the buddy, or the device itself. -/
def src : Fin 18 → Dev nD → Dev nD
  | 0, c | 2, c | 3, c | 4, c | 5, c => peer c
  | 1, c | 6, c | 7, c => buddy c
  | _, c => c

theorem src_src (k : Fin 18) (c : Dev nD) : src k (src k c) = c := by revert k c; decide +kernel

/-! ## The memrefs: the scratch buffers and their two chunks of 128 rows -/

abbrev w1M : Memref sig .tc .vmem S2x512x1024 .f32 := Memref.whole cc0_scratch0
abbrev w2M : Memref sig .tc .vmem S2x1024x512 .f32 := Memref.whole cc0_scratch1
abbrev xvM : Memref sig .tc .vmem S256x512 .f32 := Memref.whole cc0_scratch2
abbrev xbM : Memref sig .tc .vmem S256x640 .bf16 := Memref.whole cc0_scratch3
abbrev rxM : Memref sig .tc .vmem S256x640 .bf16 := Memref.whole cc0_scratch4
abbrev soM : Memref sig .tc .vmem S256x512 .bf16 := Memref.whole cc0_scratch5
abbrev roM : Memref sig .tc .vmem S256x512 .bf16 := Memref.whole cc0_scratch6
abbrev swM : Memref sig .tc .vmem S256x512 .bf16 := Memref.whole cc0_scratch7
abbrev rsM : Memref sig .tc .vmem S256x512 .bf16 := Memref.whole cc0_scratch8
abbrev asM : Memref sig .tc .vmem S512x1 .i32 := Memref.whole cc0_stg0_0
abbrev ouM : Memref sig .tc .vmem S512x512 .f32 := Memref.whole cc0_stg1_0
abbrev xM : Memref sig .tc .hbm S512x512 .f32 := Memref.whole main_arg0
abbrev W1M : Memref sig .tc .hbm S2x512x1024 .f32 := Memref.whole main_arg2
abbrev W2M : Memref sig .tc .hbm S2x1024x512 .f32 := Memref.whole main_arg3

/-- Chunks of a buffer of 640 columns, of 512 columns, and of the argument's rows. -/
abbrev rA0 : Rect S256x640 := Rect.unit (s := S256x640) ![0, 0] S128x640.size inb_S256x640_S128x640_0_0
abbrev rA1 : Rect S256x640 := Rect.unit (s := S256x640) ![128, 0] S128x640.size inb_S256x640_S128x640_128_0
abbrev rB0 : Rect S256x512 := Rect.unit (s := S256x512) ![0, 0] S128x512.size inb_S256x512_S128x512_0_0
abbrev rB1 : Rect S256x512 := Rect.unit (s := S256x512) ![128, 0] S128x512.size inb_S256x512_S128x512_128_0
abbrev rX0 (c : Dev nD) : Rect S512x512 := Rect.unit (s := S512x512) (k0_off1 c 0#32) S128x512.size (k0_off1_inb c 0)
abbrev rX1 (c : Dev nD) : Rect S512x512 := Rect.unit (s := S512x512) (k0_off1 c 128#32) S128x512.size (k0_off1_inb c 1)
/-- Inside a buffer of 640 columns: a chunk's tokens and its expert numbers; all 256 expert numbers. -/
abbrev rT0 : Rect S256x640 := Rect.unit (s := S256x640) ![0, 0] S128x512.size inb_S256x640_S128x512_0_0
abbrev rT1 : Rect S256x640 := Rect.unit (s := S256x640) ![128, 0] S128x512.size inb_S256x640_S128x512_128_0
abbrev rI0 : Rect S256x640 := Rect.unit (s := S256x640) ![0, 512] S128x1.size inb_S256x640_S128x1_0_512
abbrev rI1 : Rect S256x640 := Rect.unit (s := S256x640) ![128, 512] S128x1.size inb_S256x640_S128x1_128_512
abbrev rI : Rect S256x640 := Rect.unit (s := S256x640) ![0, 512] S256x1.size inb_S256x640_S256x1_0_512
/-- The device's 256 expert numbers among its 512. -/
abbrev rS (c : Dev nD) : Rect S512x1 := Rect.unit (s := S512x1) (k0_off2 c) S256x1.size (k0_off2_inb c)
/-- The weights of the first and second expert. -/
abbrev rW0 : Rect S2x512x1024 := Rect.unit (s := S2x512x1024) ![0, 0, 0] S1x512x1024.size inb_S2x512x1024_S1x512x1024_0_0_0
abbrev rW1 : Rect S2x512x1024 := Rect.unit (s := S2x512x1024) ![1, 0, 0] S1x512x1024.size inb_S2x512x1024_S1x512x1024_1_0_0
abbrev rV0 : Rect S2x1024x512 := Rect.unit (s := S2x1024x512) ![0, 0, 0] S1x1024x512.size inb_S2x1024x512_S1x1024x512_0_0_0
abbrev rV1 : Rect S2x1024x512 := Rect.unit (s := S2x1024x512) ![1, 0, 0] S1x1024x512.size inb_S2x1024x512_S1x1024x512_1_0_0

/-- What the copies and waits of a chunk of 640, a chunk of 512 (bf16 and f32) and of the weights count. -/
abbrev NA : ℕ := (xbM.slice rA0 (fun _ => rfl)).view.dmaCredit
abbrev NB : ℕ := (soM.slice rB0 (fun _ => rfl)).view.dmaCredit
abbrev NX : ℕ := (xvM.slice rB0 (fun _ => rfl)).view.dmaCredit
abbrev NW1 : ℕ := w1M.view.dmaCredit
abbrev NW2 : ℕ := w2M.view.dmaCredit

/-- What each cell counts. -/
def amt : Fin 18 → ℕ
  | 0 | 1 => 1
  | 2 | 3 | 8 | 9 => NA
  | 4 | 5 | 6 | 7 | 10 | 11 | 12 | 13 => NB
  | 14 => NW1
  | 15 => NW2
  | _ => NX

theorem NA_pos : 0 < NA := View.dmaCredit_pos _ (by decide)
theorem NB_pos : 0 < NB := View.dmaCredit_pos _ (by decide)
theorem NX_pos : 0 < NX := View.dmaCredit_pos _ (by decide)
theorem NW1_pos : 0 < NW1 := View.dmaCredit_pos _ (by decide)
theorem NW2_pos : 0 < NW2 := View.dmaCredit_pos _ (by decide)

theorem amt_pos (k : Fin 18) : 0 < amt k := by
  have hA := NA_pos; have hB := NB_pos; have hX := NX_pos; have h1 := NW1_pos; have h2 := NW2_pos
  fin_cases k <;> first | exact Nat.one_pos | assumption

/-! ## The values -/

variable (m : (ℓ : Loc nD τ sig) → Buf (Elt F) ℓ)

/-- The device's coordinate along `x`, as the kernel computes it. -/
def xw (c : Dev nD) : BitVec 32 := Scalar.remsi (Scalar.divsi (Dev.word c) 16#32) 2#32

/-- The device's 512 expert numbers, as fetched. -/
def asn (c : Dev nD) : (cc0_stg0_0 : Ref sig .tc).ty.Contents (Elt F) :=
  (win0_0.blk (0 : Fin 1)).view.read (Elt F) (m ((c : Thread nD τ).loc main_arg1))

/-- The device's 256 expert numbers, rounded into the exchanged format. -/
def idcol (c : Dev nD) : FVec F S256x1 .bf16 := k0_pay1 ((asM.access (rS c)).read (Elt F) (asn m c))

/-- Its two chunks of rows as copied from the argument, rounded; and the chunks' expert numbers. -/
def xl0 (c : Dev nD) : Vec F S128x512 .f32 := (xM.access (rX0 c)).read (Elt F) (m ((c : Thread nD τ).loc main_arg0))
def xl1 (c : Dev nD) : Vec F S128x512 .f32 := (xM.access (rX1 c)).read (Elt F) (m ((c : Thread nD τ).loc main_arg0))
def tok0 (c : Dev nD) : FVec F S128x512 .bf16 := k0_pay2 (xl0 m c)
def tok1 (c : Dev nD) : FVec F S128x512 .bf16 := k0_pay3 (xl1 m c)
/-- The two chunks' rows among the 256. -/
abbrev rC0 : Rect S256x1 := Rect.unit (s := S256x1) ![0, 0] S128x1.size (by decide)
abbrev rC1 : Rect S256x1 := Rect.unit (s := S256x1) ![128, 0] S128x1.size (by decide)
def ids0 (c : Dev nD) : Vec F S128x1 .bf16 := fun j => idcol m c (rC0.emb j)
def ids1 (c : Dev nD) : Vec F S128x1 .bf16 := fun j => idcol m c (rC1.emb j)

/-- The device's two experts: first and second layers, rounded. -/
def w10 (c : Dev nD) : FVec F S512x1024 .bf16 := k0_pay4 ((w1M.access rW0).read (Elt F) (m ((c : Thread nD τ).loc main_arg2)))
def w11 (c : Dev nD) : FVec F S512x1024 .bf16 := k0_pay5 ((w1M.access rW1).read (Elt F) (m ((c : Thread nD τ).loc main_arg2)))
def w20 (c : Dev nD) : FVec F S1024x512 .bf16 := k0_pay6 ((w2M.access rV0).read (Elt F) (m ((c : Thread nD τ).loc main_arg3)))
def w21 (c : Dev nD) : FVec F S1024x512 .bf16 := k0_pay7 ((w2M.access rV1).read (Elt F) (m ((c : Thread nD τ).loc main_arg3)))

/-- What the device's experts make of its own chunks. -/
def own0 (c : Dev nD) : FVec F S128x512 .f32 :=
  k0_pay10 (xw c) (w10 m c) (w11 m c) (w20 m c) (w21 m c) (tok0 m c) (ids0 m c) (k0_pay8 (F := F)) (k0_pay9 (F := F) (xw c))
def own1 (c : Dev nD) : FVec F S128x512 .f32 :=
  k0_pay16 (xw c) (w10 m c) (w11 m c) (w20 m c) (w21 m c) (tok1 m c) (ids1 m c)
/-- What they make of the peer's chunks, rounded: what the device sends back. -/
def sent0 (c : Dev nD) : FVec F S128x512 .bf16 :=
  k0_pay11 (xw c) (w10 m c) (w11 m c) (w20 m c) (w21 m c) (tok0 m (peer c)) (ids0 m (peer c))
def sent1 (c : Dev nD) : FVec F S128x512 .bf16 :=
  k0_pay15 (xw c) (w10 m c) (w11 m c) (w20 m c) (w21 m c) (tok1 m (peer c)) (ids1 m (peer c)) (k0_pay12 (F := F))
    (k0_pay13 (F := F) (xw c) (ids1 m (peer c))) (k0_pay14 (F := F))
/-- The finished chunks: its own experts' part and the peer's. -/
def full0 (c : Dev nD) : FVec F S128x512 .f32 := k0_pay17 (own0 m c) (sent0 m (peer c))
def full1 (c : Dev nD) : FVec F S128x512 .f32 := k0_pay19 (own1 m c) (sent1 m (peer c))
/-- The same, rounded for the buddy. -/
def swp0 (c : Dev nD) : FVec F S128x512 .bf16 := k0_pay18 (own0 m c) (sent0 m (peer c))
def swp1 (c : Dev nD) : FVec F S128x512 .bf16 := k0_pay20 (own1 m c) (sent1 m (peer c))
/-- The buddy's finished chunks as this device writes them. -/
def oth0 (c : Dev nD) : FVec F S128x512 .f32 := k0_pay21 (swp0 m (buddy c))
def oth1 (c : Dev nD) : FVec F S128x512 .f32 := k0_pay22 (swp1 m (buddy c))

/-! ## Pieces of buffers -/

/-- The elements under a view on device `c`, at share `q`, at contents of which `P` holds. -/
def pts {sp : Space} {s : Shape} {e : EltTy} (c : Dev nD) (v : View sig .tc sp s e) (q : PosShare TreeShare)
    (P : v.ty.Contents (Elt F) → Prop) : sProp 𝕄 :=
  iprop(∃ f : Buf (Elt F) (v.loc (c : Thread nD τ)), ⌜P f⌝ ∗ (v.loc (c : Thread nD τ) ↦[v.set]{q} f))

/-- At any contents, outright. -/
abbrev anyPts {sp : Space} {s : Shape} {e : EltTy} (c : Dev nD) (v : View sig .tc sp s e) : sProp 𝕄 :=
  pts (F := F) c v fullShare (fun _ => True)

/-- Reading `w`, outright. -/
abbrev valPts {sp : Space} {s : Shape} {e : EltTy} (c : Dev nD) (v : View sig .tc sp s e) (w : s.Idx → Elt F e) : sProp 𝕄 :=
  pts (F := F) c v fullShare (fun f => v.read (Elt F) f = w)

/-- A buffer of 640 columns holds, in the first or second chunk of rows, the tokens `t` and the expert numbers `i`. -/
def has0 (t : Vec F S128x512 .bf16) (i : Vec F S128x1 .bf16) (f : S256x640.Idx → Elt F .bf16) : Prop :=
  (fun j => f (rT0.emb j)) = t ∧ (fun j => f (rI0.emb j)) = i
def has1 (t : Vec F S128x512 .bf16) (i : Vec F S128x1 .bf16) (f : S256x640.Idx → Elt F .bf16) : Prop :=
  (fun j => f (rT1.emb j)) = t ∧ (fun j => f (rI1.emb j)) = i

instance pts_storable {sp : Space} {s : Shape} {e : EltTy} (c : Dev nD) (v : View sig .tc sp s e) (q : PosShare TreeShare)
    (P : v.ty.Contents (Elt F) → Prop) : BI.Storable (upEmb : UEmb _ 𝕄) (pts (F := F) c v q P) := by
  unfold pts; infer_instance

/-! ## What each payment hands over -/

def pay (c : Dev nD) : Fin 18 → sProp 𝕄
  | 0 => iprop(anyPts (peer c) (rxM.access rA0) ∗ anyPts (peer c) (rxM.access rA1)
      ∗ anyPts (peer c) (roM.access rB0) ∗ anyPts (peer c) (roM.access rB1))
  | 1 => iprop(anyPts (buddy c) (rsM.access rB0) ∗ anyPts (buddy c) (rsM.access rB1))
  | 2 => pts c (rxM.access rA0) fullShare (has0 (tok0 m (peer c)) (ids0 m (peer c)))
  | 3 => pts c (rxM.access rA1) fullShare (has1 (tok1 m (peer c)) (ids1 m (peer c)))
  | 4 => valPts c (roM.access rB0) (sent0 m (peer c))
  | 5 => valPts c (roM.access rB1) (sent1 m (peer c))
  | 6 => valPts c (rsM.access rB0) (swp0 m (buddy c))
  | 7 => valPts c (rsM.access rB1) (swp1 m (buddy c))
  | 8 => pts c (xbM.access rA0) fullShare.right (fun _ => True)
  | 9 => pts c (xbM.access rA1) fullShare.right (fun _ => True)
  | 10 => anyPts c (soM.access rB0)
  | 11 => anyPts c (soM.access rB1)
  | 12 => anyPts c (swM.access rB0)
  | 13 => anyPts c (swM.access rB1)
  | 14 => valPts c w1M.view (m ((c : Thread nD τ).loc main_arg2))
  | 15 => valPts c w2M.view (m ((c : Thread nD τ).loc main_arg3))
  | 16 => valPts c (xvM.access rB0) (xl0 m c)
  | _ => valPts c (xvM.access rB1) (xl1 m c)

instance pay_storable (c : Dev nD) (k : Fin 18) : BI.Storable (upEmb : UEmb _ 𝕄) (pay m c k) := by
  unfold pay; split <;> infer_instance

def amtOf : Option (Fin 18) → ℕ
  | some k => amt k
  | none => 1

/-- The schedule: each cell one duty, in round 0. -/
def rd : Rounds.Schedule (GSem nD τ sig) Unit 𝕄 where
  duties g r := if r = 0 ∧ g.1.2 = .tc ∧ (kof g.2).isSome then {()} else ∅
  unitless _ := False
  amount g _ _ := amtOf (kof g.2)
  payload g _ _ := match kof g.2 with | some k => pay m g.1.1 k | none => iprop(emp)
  amount_pos g _ _ _ := by
    unfold amtOf
    split
    · exact amt_pos _
    · exact Nat.one_pos

instance rd_payload_storable (g : GSem nD τ sig) (r : ℕ) (d : Unit) :
    BI.Storable (upEmb : UEmb _ 𝕄) ((rd m).payload g r d) := by
  dsimp only [rd]
  split <;> infer_instance

section Sched
variable (c : Dev nD) (k : Fin 18)

omit [FloatOps F] in
theorem kof_kcell : kof (kcell (c, k)).2 = some k := kof_csem k

theorem duties_cell : (rd m).duties (kcell (c, k)) 0 = {()} := by
  dsimp only [rd]; exact if_pos ⟨rfl, rfl, by rw [kof_csem]; rfl⟩

theorem duty_mem : () ∈ (rd m).duties (kcell (c, k)) 0 := by rw [duties_cell]; exact Finset.mem_singleton_self _

theorem duties_later (g : GSem nD τ sig) : ∀ r, 1 ≤ r → (rd m).duties g r = ∅ := fun r hr => by
  dsimp only [rd]; exact if_neg fun h => by omega

theorem amount_cell : (rd m).amount (kcell (c, k)) 0 () = amt k := by dsimp only [rd]; rw [kof_csem]; rfl

theorem payload_cell (d : Unit) : (rd m).payload (kcell (c, k)) 0 d = pay m c k := by dsimp only [rd]; rw [kof_csem]

theorem expect_cell : (rd m).expect (kcell (c, k)) 0 = amt k := by
  unfold Schedule.expect Schedule.amountOf; rw [duties_cell, Finset.sum_singleton, amount_cell]

theorem rest_cell : bigSep ((rd m).duties (kcell (c, k)) 0 \ ∅) (fun d => (rd m).payload (kcell (c, k)) 0 d) = pay m c k := by
  rw [Finset.sdiff_empty, duties_cell, bigSep_singleton, payload_cell]

end Sched

/-! ## What each device owes at launch; the levels -/

/-- The signals and landings device `c` owes, by cell of the device it pays; the last one listed is paid first. -/
def owed (c : Dev nD) : List (Fin 18) → CellTallies nD τ sig Unit
  | [] => 0
  | k :: l => owed c l + tallyAt (kcell (src k c, k)) () (amt k)

/-- Everything, in the order in which it is paid. -/
abbrev dues : List (Fin 18) := [0, 1, 2, 3, 4, 5, 6, 7]

def L (g : GSem nD τ sig) : Finset Unit := if g.1.2 = .tc then {()} else ∅

/-- The order of the waits: nobody waits while it owes a cell of the same or a lower level. -/
def lvk : Fin 18 → ℕ
  | 0 => 1
  | 1 | 2 | 3 => 2
  | 4 | 5 => 3
  | 6 | 7 => 4
  | _ => 0

def lv (g : GSem nD τ sig) (_ : Unit) : ℕ := match kof g.2 with | some k => lvk k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : Fin 18) (u : Unit) : lv (kcell (c, k)) u = lvk k := by unfold lv; rw [kof_csem]

theorem owed_pos {c : Dev nD} {l : List (Fin 18)} {g : GSem nD τ sig} {u : Unit} (h : 0 < owed c l g u) :
    ∃ k ∈ l, g = kcell (src k c, k) := by
  induction l with
  | nil => exact absurd h (Nat.lt_irrefl 0)
  | cons k l ih =>
    unfold owed at h
    rw [Pi.add_apply, Finsupp.add_apply, tallyAt_apply] at h
    by_cases hk : g = kcell (src k c, k) ∧ u = ()
    · exact ⟨k, List.mem_cons_self, hk.1⟩
    · rw [if_neg hk, Nat.add_zero] at h
      obtain ⟨k', hk', e⟩ := ih h
      exact ⟨k', List.mem_cons_of_mem _ hk', e⟩

/-- A wait on a cell of level below everything owed. -/
theorem mayWait (c : Dev nD) (sm : SemLoc sig) (n : ℕ) (l : List (Fin 18)) (hn : lv ((c : Thread nD τ), sm) () ≤ n)
    (hl : ∀ k ∈ l, n < lvk k) :
    (levAts L lv : sProp 𝕄) ⊢ MayWait (c : Thread nD τ) sm () (owed c l) :=
  MayOwe.of_cut (L := L) (lev := lv) n
    (fun p hp => by rw [Finset.mem_singleton.mp hp, L_tc]; exact Finset.mem_singleton_self _)
    (fun g u hg => by obtain ⟨k, -, rfl⟩ := owed_pos hg; rw [L_tc]; exact Finset.mem_singleton_self _)
    (fun p hp => by rw [Finset.mem_singleton.mp hp]; exact hn)
    (fun g u hg => by obtain ⟨k, hk, rfl⟩ := owed_pos hg; rw [lv_kcell]; exact hl k hk)

end Cert.Moe
-- ==== Proof.Contents.lean ====
/-
What stores and copies leave in a buffer: the tokens and expert numbers of a chunk of the exchanged buffers; the result.
-/
module

public import proofs.«01_k».proof.Proof.Protocol

@[expose] public section

noncomputable section

namespace Cert.Moe

open Cert.KernelIdeal Cert.KernelIdeal.Gen

open Idealize.ShloMosaic
open Idealize.ShloMosaic.TcCoe

variable {F : FTy → Type} [FloatOps F]

/-! ## Where the rectangles of a 640-column buffer lie -/

theorem rT0_sub : rT0.set ⊆ rA0.set := Rect.set_subset_of_span _ _ (fun _ => rfl) (by decide)
theorem rT1_sub : rT1.set ⊆ rA1.set := Rect.set_subset_of_span _ _ (fun _ => rfl) (by decide)
theorem rI0_sub : rI0.set ⊆ rA0.set := Rect.set_subset_of_span _ _ (fun _ => rfl) (by decide)
theorem rI1_sub : rI1.set ⊆ rA1.set := Rect.set_subset_of_span _ _ (fun _ => rfl) (by decide)

theorem emb_mem {s : Shape} (r : Rect s) (j : r.shape.Idx) : r.emb j ∈ r.set := r.idx_mem j

theorem rI0_not_rT0 (j : S128x1.Idx) : rI0.emb j ∉ rT0.set :=
  Finset.disjoint_left.mp (Rect.unit_disjoint (1 : Fin 2) (Or.inr (by decide))) (emb_mem rI0 j)
theorem rI1_not_rT1 (j : S128x1.Idx) : rI1.emb j ∉ rT1.set :=
  Finset.disjoint_left.mp (Rect.unit_disjoint (1 : Fin 2) (Or.inr (by decide))) (emb_mem rI1 j)

theorem rI_rC0 (j : S128x1.Idx) : rI.emb (rC0.emb j) = rI0.emb j := by
  funext a; apply Fin.ext; fin_cases a <;> simp
theorem rI_rC1 (j : S128x1.Idx) : rI.emb (rC1.emb j) = rI1.emb j := by
  funext a; apply Fin.ext; fin_cases a <;> simp

/-! ## Writes through a rectangle of a whole buffer -/

/-- At an element of the rectangle, what was written; elsewhere, what was there. -/
theorem write_at (b : Ref sig .tc) (r : Rect b.ty.shape) (f : b.ty.Contents (Elt F)) (w : r.shape.Idx → Elt F b.ty.elt)
    (j : r.shape.Idx) : ((Memref.whole b).access r).write (Elt F) f w Finset.univ (r.emb j) = w j := by
  exact View.write_emb_of_mem (v := (Memref.whole b).access r) f w (Finset.mem_univ j)

theorem set_access (b : Ref sig .tc) (r : Rect b.ty.shape) : ((Memref.whole b).access r).set = r.set := View.set_slice_whole b r

theorem write_off (b : Ref sig .tc) (r : Rect b.ty.shape) (f : b.ty.Contents (Elt F)) (w : r.shape.Idx → Elt F b.ty.elt)
    {i : b.ty.shape.Idx} (hi : i ∉ r.set) : ((Memref.whole b).access r).write (Elt F) f w Finset.univ i = f i := by
  apply View.write_of_not_mem
  have h : ((Memref.whole b).access r).setOn Finset.univ = r.set := set_access b r
  rw [h]; exact hi

theorem read_at (b : Ref sig .tc) (r : Rect b.ty.shape) (f : b.ty.Contents (Elt F)) :
    ((Memref.whole b).access r).read (Elt F) f = fun j => f (r.emb j) := rfl

/-! ## The exchanged buffers -/

/-- All 256 expert numbers of a 640-column buffer. -/
def hasI (w : Vec F S256x1 .bf16) (f : S256x640.Idx → Elt F .bf16) : Prop := (fun j => f (rI.emb j)) = w

theorem store_ids (w : FVec F S256x1 .bf16) (f : S256x640.Idx → Elt F .bf16) :
    hasI w ((xbM.access rI).write (Elt F) f w Finset.univ) := funext fun j => write_at cc0_scratch3 rI f w j

variable (m : (ℓ : Loc nD τ sig) → Buf (Elt F) ℓ)

theorem store_tok0 (c : Dev nD) (t : FVec F S128x512 .bf16) (f : S256x640.Idx → Elt F .bf16) (h : hasI (idcol m c) f) :
    has0 t (ids0 m c) ((xbM.access rT0).write (Elt F) f t Finset.univ) :=
  ⟨funext fun j => write_at cc0_scratch3 rT0 f t j, funext fun j => by
    refine (write_off cc0_scratch3 rT0 f t (rI0_not_rT0 j)).trans ?_
    rw [← rI_rC0]; exact congrFun h (rC0.emb j)⟩

theorem store_tok1 (c : Dev nD) (t : FVec F S128x512 .bf16) (f : S256x640.Idx → Elt F .bf16) (h : hasI (idcol m c) f) :
    has1 t (ids1 m c) ((xbM.access rT1).write (Elt F) f t Finset.univ) :=
  ⟨funext fun j => write_at cc0_scratch3 rT1 f t j, funext fun j => by
    refine (write_off cc0_scratch3 rT1 f t (rI1_not_rT1 j)).trans ?_
    rw [← rI_rC1]; exact congrFun h (rC1.emb j)⟩

/-- A chunk copied between the two 640-column buffers arrives as it was, element by element. -/
theorem copied_at (r : Rect S256x640) (fs fd : S256x640.Idx → Elt F .bf16) {i : S256x640.Idx} (hi : i ∈ r.set) :
    (rxM.access r).write (Elt F) fd ((xbM.access r).read (Elt F) fs) Finset.univ i = fs i := by
  obtain ⟨j, rfl⟩ := LoadRect.exists_idx_of_mem _ hi
  exact write_at cc0_scratch4 r fd _ j

theorem land_tok0 {t : Vec F S128x512 .bf16} {i : Vec F S128x1 .bf16} (fs fd : S256x640.Idx → Elt F .bf16) (h : has0 t i fs) :
    has0 t i ((rxM.access rA0).write (Elt F) fd ((xbM.access rA0).read (Elt F) fs) Finset.univ) :=
  ⟨(funext fun j => copied_at rA0 fs fd (rT0_sub (emb_mem rT0 j))).trans h.1,
    (funext fun j => copied_at rA0 fs fd (rI0_sub (emb_mem rI0 j))).trans h.2⟩

theorem land_tok1 {t : Vec F S128x512 .bf16} {i : Vec F S128x1 .bf16} (fs fd : S256x640.Idx → Elt F .bf16) (h : has1 t i fs) :
    has1 t i ((rxM.access rA1).write (Elt F) fd ((xbM.access rA1).read (Elt F) fs) Finset.univ) :=
  ⟨(funext fun j => copied_at rA1 fs fd (rT1_sub (emb_mem rT1 j))).trans h.1,
    (funext fun j => copied_at rA1 fs fd (rI1_sub (emb_mem rI1 j))).trans h.2⟩

/-! ## The result -/

/-- A row of the result inside its chunk of 128 rows. -/
def inChunk (i : S512x512.Idx) : S128x512.Idx := fun a => match a with
  | ⟨0, _⟩ => ⟨(i 0).val % 128, Nat.mod_lt _ (by decide)⟩
  | ⟨1, _⟩ => i 1

/-- The device's result: in the half of the rows it computes, its own finished chunks; in the other half, its buddy's. -/
def outAt (c : Dev nD) : S512x512.Idx → Elt F .f32 := fun i =>
  if (i 0).val / 128 = 2 * (c.val % 2) then full0 m c (inChunk i)
  else if (i 0).val / 128 = 2 * (c.val % 2) + 1 then full1 m c (inChunk i)
  else if (i 0).val / 128 = 2 * (1 - c.val % 2) then oth0 m c (inChunk i)
  else oth1 m c (inChunk i)

/-- The four chunks of rows of the result that device `c` writes. -/
abbrev rO0 (c : Dev nD) : Rect S512x512 := Rect.unit (s := S512x512) (k0_off3 c 0#32) S128x512.size (k0_off3_inb c 0)
abbrev rO1 (c : Dev nD) : Rect S512x512 := Rect.unit (s := S512x512) (k0_off3 c 128#32) S128x512.size (k0_off3_inb c 1)
abbrev rO2 (c : Dev nD) : Rect S512x512 := Rect.unit (s := S512x512) (k0_off4 c 0#32) S128x512.size (k0_off4_inb c 0)
abbrev rO3 (c : Dev nD) : Rect S512x512 := Rect.unit (s := S512x512) (k0_off4 c 128#32) S128x512.size (k0_off4_inb c 1)

theorem off1_0 (c : Dev nD) : k0_off1 c 0#32 = ![128 * (2 * (c.val % 2)), 0] := by revert c; decide +kernel
theorem off1_1 (c : Dev nD) : k0_off1 c 128#32 = ![128 * (2 * (c.val % 2) + 1), 0] := by revert c; decide +kernel
theorem off2_0 (c : Dev nD) : k0_off2 c = ![256 * (c.val % 2), 0] := by revert c; decide +kernel
theorem off3_0 (c : Dev nD) : k0_off3 c 0#32 = ![128 * (2 * (c.val % 2)), 0] := by revert c; decide +kernel
theorem off3_1 (c : Dev nD) : k0_off3 c 128#32 = ![128 * (2 * (c.val % 2) + 1), 0] := by revert c; decide +kernel
theorem off4_0 (c : Dev nD) : k0_off4 c 0#32 = ![128 * (2 * (1 - c.val % 2)), 0] := by revert c; decide +kernel
theorem off4_1 (c : Dev nD) : k0_off4 c 128#32 = ![128 * (2 * (1 - c.val % 2) + 1), 0] := by revert c; decide +kernel

/-- Writing a chunk of 128 rows. -/
theorem write_chunk (off : Fin 2 → ℕ) (b : ℕ) (h : off = ![128 * b, 0]) (inb : ∀ a, off a + S128x512.size a ≤ S512x512.size a)
    (f : S512x512.Idx → Elt F .f32) (w : FVec F S128x512 .f32) (i : S512x512.Idx) :
    (ouM.access (Rect.unit (s := S512x512) off S128x512.size inb)).write (Elt F) f w Finset.univ i
      = if (i 0).val / 128 = b then w (inChunk i) else f i := by
  subst h
  set r : Rect S512x512 := Rect.unit (s := S512x512) ![128 * b, 0] S128x512.size inb
  split
  · rename_i hb
    have e : i = r.emb (inChunk i) := by
      funext a; apply Fin.ext
      have h0 : ((i 0).val) = 128 * b + (i 0).val % 128 := by omega
      fin_cases a
      · simpa [r, inChunk] using h0
      · simp [r, inChunk]
    conv_lhs => rw [e]
    exact write_at cc0_stg1_0 r f w (inChunk i)
  · rename_i hb
    refine write_off cc0_stg1_0 r f w fun hi => hb ?_
    have h := (Rect.mem_set_unit.mp hi) (0 : Fin 2)
    have h1 : 128 * b ≤ (i 0).val := h.1
    have h2 : (i 0).val < 128 * b + 128 := h.2
    omega

/-- The four writes make the result, whatever was there. -/
theorem writes_out (c : Dev nD) (f : S512x512.Idx → Elt F .f32) :
    (ouM.access (rO3 c)).write (Elt F) ((ouM.access (rO2 c)).write (Elt F) ((ouM.access (rO1 c)).write (Elt F)
      ((ouM.access (rO0 c)).write (Elt F) f (full0 m c) Finset.univ) (full1 m c) Finset.univ) (oth0 m c) Finset.univ)
      (oth1 m c) Finset.univ = outAt m c := by
  funext i
  have hi : (i 0).val / 128 < 4 := by have := (i 0).isLt; change (i 0).val < 512 at this; omega
  rw [write_chunk _ _ (off4_1 c), write_chunk _ _ (off4_0 c), write_chunk _ _ (off3_1 c), write_chunk _ _ (off3_0 c)]
  unfold outAt
  generalize (i 0).val / 128 = b at hi ⊢
  have hb : b = 0 ∨ b = 1 ∨ b = 2 ∨ b = 3 := by omega
  rcases Nat.mod_two_eq_zero_or_one c.val with hc | hc <;> rw [hc] <;> rcases hb with rfl | rfl | rfl | rfl <;> simp

end Cert.Moe
-- ==== Proof.Steps.lean ====
/-
One rule per kind of step of the body: a signal, a wait, a copy, a send, a load, a store, over the protocol's cells.
-/
module

public import proofs.«01_k».proof.Proof.Contents

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 18 → ℕ)

abbrev 𝒱₀ : Variants := Variants.none

/-- The weakest precondition of a program of device `c`. -/
abbrev wpb {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## What is held -/

/-- The levels. -/
def levs : sProp 𝕄 := levAts L lv

instance levs_persistent : BI.Persistent (levs (F := F)) := by unfold levs; infer_instance

/-- All cells' invariants, under the names they were allocated at, and that each is at its round 0; and the levels. -/
def recs : sProp 𝕄 :=
  iprop((bigSep Finset.univ fun ck : Dev nD × Fin 18 => iprop(cellInv ER (rd m) (K ck) (kcell ck) ∗ reached ER (kcell ck) 0)) ∗ levs)

instance recs_persistent : BI.Persistent (recs m K) := by unfold recs; infer_instance

theorem recs_at (ck : Dev nD × Fin 18) : recs m K ⊢ iprop(cellInv ER (rd m) (K ck) (kcell ck) ∗ reached ER (kcell ck) 0) := by
  unfold recs
  exact Laws.sep_elim_left.trans (bigSep_elim (Finset.mem_univ ck))

theorem recs_mayWait (c : Dev nD) (k : Fin 18) (l : List (Fin 18)) (hl : ∀ j ∈ l, lvk k < lvk j) :
    recs m K ⊢ MayWait (c : Thread nD τ) (csem k) () (owed c l) := by
  have h1 : lv ((c : Thread nD τ), csem k) () ≤ lvk k := le_of_eq (lv_kcell c k ())
  have h2 := mayWait (F := F) c (csem k) (lvk k) l h1 hl
  unfold recs
  unfold levs
  iintro ⟨-, H⟩
  iapply h2
  iexact H

/-- What the device still owes. -/
def own (c : Dev nD) (l : List (Fin 18)) : sProp 𝕄 := iprop(∃ W, owes (c : Thread nD τ) (owed c l) W)

/-- The right to pay a cell; to be the one who waits on it; that with the credit to wait; that the wait is over. -/
def tok (c : Dev nD) (k : Fin 18) : sProp 𝕄 := dutyTok ER (kcell (c, k)) 0 ()
def atp (c : Dev nD) (k : Fin 18) : sProp 𝕄 := atPos ER (kcell (c, k)) 0 ∅ 0
def ticket (c : Dev nD) (k : Fin 18) : sProp 𝕄 := iprop(cred (tallyAt (kcell (c, k)) () (amt k)) ∗ atp (F := F) c k)
def done (c : Dev nD) (k : Fin 18) : sProp 𝕄 := atPos ER (kcell (c, k)) (0 + 1) ∅ 0

/-! ## Waits, signals, copies, sends -/

theorem step_wait (c : Dev nD) (k : Fin 18) (l : List (Fin 18)) {w : TpuEff nD τ sig (Elt F) Λ₀ .tc PUnit} {k' : ℕ}
    (hw : ∀ Kt : PUnit → sProp 𝕄, wpE (defs₀ (F := F)) 𝒱₀ (c : Thread nD τ) none Set.univ w Kt = waitSpec (c : Thread nD τ) Set.univ (csem k) k' Kt)
    (hk : k' = amt k) (hl : ∀ j ∈ l, lvk k < lvk j)
    {α : Type} {Q : α → sProp 𝕄} {kk : PUnit → Prog (TpuEff nD τ sig (Elt F) Λ₀ .tc) α} :
    iprop(recs m K ∗ own c l ∗ ticket c k)
      ⊢ iprop(((own c l ∗ done c k ∗ pay m c k) -∗ wpb c (kk ⟨⟩) Q) -∗ wpb c (.op w kk) Q) := by
  subst hk
  unfold own ticket atp done
  iintro ⟨#HR, ⟨%W, HO⟩, Hc, Ha⟩ Hk
  ihave HI := (recs_at m K (c, k)) $$ HR
  icases HI with ⟨#HI, -⟩
  iapply (Rounds.wp_wait_rest_token 𝒱₀ ER (rd m) (c : Thread nD τ) none (κ := K (c, k)) hw (Set.mem_univ _) ()
    (O := owed c l) (W := W) (R := 0) (m := 0) (T := ∅) (by rw [Nat.zero_add]; exact (expect_cell m c k).symm)) $$ [HO Hc Ha]
  · isplitr; · iexact HI
    isplitl [Hc]; · iexact Hc
    isplitl [HO]; · iexact HO
    isplitr
    · iapply (recs_mayWait m K c k l hl); iexact HR
    iexact Ha
  iintro ⟨HO, Ha, -, Hp⟩
  iapply Hk
  isplitl [HO]; · iexists _; iexact HO
  isplitl [Ha]; · iexact Ha
  iapply (Entails.of_eq (rest_cell m c k)) $$ Hp

theorem step_signal (c n : Dev nD) (k : Fin 18) (l : List (Fin 18)) (hn : n = src k c) {sem : Sem sig} (hs : csem k = .reg sem) {k' : ℕ}
    (hk : amt k = k') {α : Type} {Q : α → sProp 𝕄} {kk : PUnit → Prog (TpuEff nD τ sig (Elt F) Λ₀ .tc) α} :
    iprop(recs m K ∗ own c (k :: l) ∗ tok (src k c) k ∗ pay m (src k c) k)
      ⊢ iprop((own c l -∗ wpb c (kk ⟨⟩) Q) -∗ wpb c (.op (.semSignal (Dev.tc n : Thread nD τ) sem k') kk) Q) := by
  subst hn hk
  unfold own tok
  iintro ⟨#HR, ⟨%W, HO⟩, Ht, Hp⟩ Hk
  ihave HI := (recs_at m K (src k c, k)) $$ HR
  have e : kcell (src k c, k) = ((src k c : Thread nD τ), .reg sem) := by unfold kcell; rw [hs]
  rw [show owed c (k :: l) = owed c l + tallyAt (kcell (src k c, k)) () (amt k) from rfl, e]
  icases HI with ⟨#HI, #Hr⟩
  iapply (Rounds.wp_signal 𝒱₀ ER (rd m) (c : Thread nD τ) none (dst := (src k c : Thread nD τ)) (κ := K (src k c, k))
      (d := ()) (r := 0) (e ▸ duty_mem m (src k c) k) (e ▸ amount_cell m (src k c) k) () (owed c l) rfl) $$ [HO Ht Hp]
  · isplitr; · iexact HI
    isplitl [HO]; · iexact HO
    isplitl [Ht]; · iexact Ht
    isplitl [Hp]
    · rw [← e, payload_cell]; iexact Hp
    iexact Hr
  iintro HO
  iapply Hk
  iexists _; iexact HO

theorem step_copy (c : Dev nD) (k : Fin 18) {sp sp' : Space} {s : Shape} {e : EltTy} {sm : Memref sig .tc sp s e} {dm : Memref sig .tc sp' s e}
    {q : PosShare TreeShare} {P : sm.view.ty.Contents (Elt F) → Prop} {P' : dm.view.ty.Contents (Elt F) → Prop}
    (hP : ∀ fs fd, P fs → P' (dm.view.write (Elt F) fd (sm.view.read (Elt F) fs) Finset.univ))
    (hN : dm.view.amount (csem k) = amt k) (hpay : pts c dm.view fullShare P' ⊢ pay m c k)
    {hsrc : sm.view.WordExact} {hdst : dm.view.WordExact} {hsem : DmaTarget.Typed (nD := nD) (τ := τ) (p := Proc.tc) sp (csem k) (.here dm)}
    {α : Type} {Q : α → sProp 𝕄} {kk : PUnit → Prog (TpuEff nD τ sig (Elt F) Λ₀ .tc) α} :
    iprop(recs m K ∗ pts c sm.view q P ∗ anyPts c dm.view ∗ tok c k ∗ atp c k)
      ⊢ iprop((ticket c k -∗ wpb c (kk ⟨⟩) Q) -∗ wpb c (.op (.enqueueDma sm (.here dm) (csem k) hsrc hdst hsem) kk) Q) := by
  unfold tok atp ticket anyPts pts
  iintro ⟨#HR, ⟨%fs, %hfs, Hs⟩, ⟨%fd, -, Hd⟩, Ht, Ha⟩ Hk
  ihave HI := (recs_at m K (c, k)) $$ HR
  icases HI with ⟨#HI, #Hr⟩
  iapply (Rounds.wp_copy_pointsTo 𝒱₀ ER (rd m) (c : Thread nD τ) none (κ := K (c, k)) (r := 0) (d := ()) (q := q) (fs := fs) (fd := fd)
    (duty_mem m c k) () (amt k) hN (amount_cell m c k) (by
      rw [payload_cell]
      iintro ⟨Hd, -⟩
      iapply hpay
      unfold pts
      iexists _
      isplitr; · ipureintro; exact hP fs fd hfs
      iexact Hd)) $$ [Hs Hd Ht]
  · isplitr; · iexact HI
    isplitl [Hs]; · iexact Hs
    isplitl [Hd]; · iexact Hd
    isplitl [Ht]; · iexact Ht
    iexact Hr
  iintro Hc
  iapply Hk
  isplitl [Hc]; · iexact Hc
  unfold atp
  iexact Ha

theorem step_send (c n : Dev nD) (kr ks : Fin 18) (l : List (Fin 18)) (hn : n = src kr c) {sp sp' : Space} {s : Shape} {e : EltTy}
    {sm : Memref sig .tc sp s e} {dm : Memref sig (Dev.tc n : Thread nD τ).2.kind sp' s e}
    {q : PosShare TreeShare} {P : sm.view.ty.Contents (Elt F) → Prop} {P' : dm.view.ty.Contents (Elt F) → Prop}
    (hP : ∀ fs fd, P fs → P' (dm.view.write (Elt F) fd (sm.view.read (Elt F) fs) Finset.univ))
    (hN : dm.view.amount (csem kr) = amt kr) (hks : amt ks = amt kr)
    (hpay₁ : pts c sm.view q P ⊢ pay m c ks)
    (hpay₂ : pts (src kr c) dm.view fullShare P' ⊢ pay m (src kr c) kr)
    {hsc : dm.view.ref.isScScratch = false} {hsrc : sm.view.WordExact} {hdst : dm.view.WordExact}
    {hsem : DmaTarget.Typed sp (csem kr) (.remote (Dev.tc n : Thread nD τ) dm (csem ks) hsc)}
    {α : Type} {Q : α → sProp 𝕄} {kk : PUnit → Prog (TpuEff nD τ sig (Elt F) Λ₀ .tc) α} :
    iprop(recs m K ∗ own c (kr :: l) ∗ pts c sm.view q P ∗ anyPts (src kr c) dm.view ∗ tok c ks ∗ atp c ks ∗ tok (src kr c) kr)
      ⊢ iprop(((own c l ∗ ticket c ks) -∗ wpb c (kk ⟨⟩) Q)
          -∗ wpb c (.op (.enqueueDma sm (.remote (Dev.tc n : Thread nD τ) dm (csem ks) hsc) (csem kr) hsrc hdst hsem) kk) Q) := by
  subst hn
  unfold own tok atp ticket
  iintro ⟨#HR, ⟨%W, HO⟩, Hs, Hd, Ht, Ha, Ht'⟩ Hk
  ihave HI := (recs_at m K (c, ks)) $$ HR
  icases HI with ⟨#HI, #Hr⟩
  ihave HI' := (recs_at m K (src kr c, kr)) $$ HR
  icases HI' with ⟨#HI', #Hr'⟩
  unfold anyPts pts
  icases Hs with ⟨%fs, %hfs, Hs⟩
  icases Hd with ⟨%fd, -, Hd⟩
  rw [show owed c (kr :: l) = owed c l + tallyAt (kcell (src kr c, kr)) () (amt kr) from rfl]
  iapply (Rounds.wp_send_pointsTo 𝒱₀ ER (rd m) (c : Thread nD τ) none (c' := (src kr c : Thread nD τ)) (κ₁ := K (c, ks)) (κ₂ := K (src kr c, kr))
    (r₁ := 0) (r₂ := 0) (d₁ := ()) (d₂ := ()) (fs := fs) (fd := fd) (q := q)
    (duty_mem m c ks) (duty_mem m (src kr c) kr) () () (amt kr) hN (by rw [← hks]; exact amount_cell m c ks) (amount_cell m (src kr c) kr)
    (owed c l) rfl (W := W)
    (by
      rw [payload_cell]
      iintro Hs
      iapply hpay₁
      unfold pts
      iexists fs
      isplitr; · ipureintro; exact hfs
      iexact Hs)
    (by
      rw [payload_cell]
      iintro Hd
      iapply hpay₂
      unfold pts
      iexists _
      isplitr; · ipureintro; exact hP fs fd hfs
      iexact Hd)) $$ [HO Hs Hd Ht Ht']
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply Hk
  isplitl [HO]; · iexists _; iexact HO
  rw [hks]
  isplitl [Hc]; · iexact Hc
  unfold atp
  iexact Ha

/-! ## Loads and stores -/

section Mem
variable {s : Shape} {e : EltTy} {mm : Memref sig .tc (CoreSpace.vmem : CoreSpace) s e}

/-- A load of a rectangle, out of a rectangle held; its value as the contents determine it. -/
theorem step_load_rect (c : Dev nD) (r r' : Rect s) (hr : (mm.access r).set ⊆ (mm.access r').set) {q : PosShare TreeShare}
    {P : (mm.access r').ty.Contents (Elt F) → Prop} (w : r.shape.Idx → Elt F e) (hP : ∀ f, P f → (mm.access r).read (Elt F) f = w)
    {hl : mm.view.LoadsAt r.toLoadRect} {α : Type} {Q : α → sProp 𝕄} {kk : (r.shape.Idx → Elt F e) → Prog (TpuEff nD τ sig (Elt F) Λ₀ .tc) α} :
    pts c (mm.access r') q P ⊢ iprop((pts c (mm.access r') q P -∗ wpb c (kk w) Q) -∗ wpb c (.op (.load mm r.toLoadRect hl) kk) Q) := by
  unfold pts
  iintro ⟨%f, %hf, H⟩ Hk
  iapply (wp_load_rect 𝒱₀ (c : Thread nD τ) none Set.univ (m := mm) hr) $$ H
  iintro H
  rw [hP f hf]
  iapply Hk
  iexists f
  isplitr; · ipureintro; exact hf
  iexact H

/-- A load whose value nothing uses. -/
theorem step_load_any (c : Dev nD) (r r' : Rect s) (hr : (mm.access r).set ⊆ (mm.access r').set) {q : PosShare TreeShare}
    {P : (mm.access r').ty.Contents (Elt F) → Prop}
    {hl : mm.view.LoadsAt r.toLoadRect} {α : Type} {Q : α → sProp 𝕄} {kk : (r.shape.Idx → Elt F e) → Prog (TpuEff nD τ sig (Elt F) Λ₀ .tc) α} :
    pts c (mm.access r') q P ⊢ iprop((∀ w, pts c (mm.access r') q P -∗ wpb c (kk w) Q) -∗ wpb c (.op (.load mm r.toLoadRect hl) kk) Q) := by
  unfold pts
  iintro ⟨%f, %hf, H⟩ Hk
  iapply (wp_load_rect 𝒱₀ (c : Thread nD τ) none Set.univ (m := mm) hr) $$ H
  iintro H
  iapply Hk
  iexists f
  isplitr; · ipureintro; exact hf
  iexact H

/-- A store through a rectangle into a rectangle held outright. -/
theorem step_store_rect (c : Dev nD) (r r' : Rect s) (hr : (mm.access r).set ⊆ (mm.access r').set)
    {P : (mm.access r').ty.Contents (Elt F) → Prop} (P' : (mm.access r').ty.Contents (Elt F) → Prop) {w : r.shape.Idx → Elt F e}
    (hP : ∀ f, P f → P' ((mm.access r).write (Elt F) f w Finset.univ))
    {hst : (mm.access r).Stores Finset.univ} {hm : Finset.univ = Finset.univ ∨ ∀ a, r.stride a = 1}
    {α : Type} {Q : α → sProp 𝕄} {kk : PUnit → Prog (TpuEff nD τ sig (Elt F) Λ₀ .tc) α} :
    pts c (mm.access r') fullShare P
      ⊢ iprop((pts c (mm.access r') fullShare P' -∗ wpb c (kk ⟨⟩) Q) -∗ wpb c (.op (.store mm r w Finset.univ hst hm) kk) Q) := by
  unfold pts
  iintro ⟨%f, %hf, H⟩ Hk
  iapply (wp_store 𝒱₀ (c : Thread nD τ) none Set.univ (m := mm) hr) $$ H
  iintro H
  iapply Hk
  iexists _
  isplitr; · ipureintro; exact hP f hf
  iexact H

/-- A load of a rectangle, out of a buffer held; its value as the contents determine it. -/
theorem step_load_whole (c : Dev nD) (r : Rect s) {q : PosShare TreeShare}
    {P : mm.view.ty.Contents (Elt F) → Prop} (w : r.shape.Idx → Elt F e) (hP : ∀ f, P f → (mm.access r).read (Elt F) f = w)
    {hl : mm.view.LoadsAt r.toLoadRect} {α : Type} {Q : α → sProp 𝕄} {kk : (r.shape.Idx → Elt F e) → Prog (TpuEff nD τ sig (Elt F) Λ₀ .tc) α} :
    pts c mm.view q P ⊢ iprop((pts c mm.view q P -∗ wpb c (kk w) Q) -∗ wpb c (.op (.load mm r.toLoadRect hl) kk) Q) := by
  unfold pts
  iintro ⟨%f, %hf, H⟩ Hk
  iapply (wp_load_rect 𝒱₀ (c : Thread nD τ) none Set.univ (m := mm) (View.set_slice_subset mm.view r)) $$ H
  iintro H
  rw [hP f hf]
  iapply Hk
  iexists f
  isplitr; · ipureintro; exact hf
  iexact H

/-- A load out of a buffer held whose value nothing uses. -/
theorem step_load_whole_any (c : Dev nD) (r : Rect s) {q : PosShare TreeShare}
    {P : mm.view.ty.Contents (Elt F) → Prop}
    {hl : mm.view.LoadsAt r.toLoadRect} {α : Type} {Q : α → sProp 𝕄} {kk : (r.shape.Idx → Elt F e) → Prog (TpuEff nD τ sig (Elt F) Λ₀ .tc) α} :
    pts c mm.view q P ⊢ iprop((∀ w, pts c mm.view q P -∗ wpb c (kk w) Q) -∗ wpb c (.op (.load mm r.toLoadRect hl) kk) Q) := by
  unfold pts
  iintro ⟨%f, %hf, H⟩ Hk
  iapply (wp_load_rect 𝒱₀ (c : Thread nD τ) none Set.univ (m := mm) (View.set_slice_subset mm.view r)) $$ H
  iintro H
  iapply Hk
  iexists f
  isplitr; · ipureintro; exact hf
  iexact H

/-- A store through a rectangle into a buffer held outright. -/
theorem step_store_whole (c : Dev nD) (r : Rect s)
    {P : mm.view.ty.Contents (Elt F) → Prop} (P' : mm.view.ty.Contents (Elt F) → Prop) {w : r.shape.Idx → Elt F e}
    (hP : ∀ f, P f → P' ((mm.access r).write (Elt F) f w Finset.univ))
    {hst : (mm.access r).Stores Finset.univ} {hm : Finset.univ = Finset.univ ∨ ∀ a, r.stride a = 1}
    {α : Type} {Q : α → sProp 𝕄} {kk : PUnit → Prog (TpuEff nD τ sig (Elt F) Λ₀ .tc) α} :
    pts c mm.view fullShare P
      ⊢ iprop((pts c mm.view fullShare P' -∗ wpb c (kk ⟨⟩) Q) -∗ wpb c (.op (.store mm r w Finset.univ hst hm) kk) Q) := by
  unfold pts
  iintro ⟨%f, %hf, H⟩ Hk
  iapply (wp_store 𝒱₀ (c : Thread nD τ) none Set.univ (m := mm) (View.set_slice_subset mm.view r)) $$ H
  iintro H
  iapply Hk
  iexists _
  isplitr; · ipureintro; exact hP f hf
  iexact H

end Mem

end Cert.Moe
-- ==== Proof.Pieces.lean ====
/-
Pieces of buffers: a whole buffer and its two chunks of rows, a piece and its two half shares.
-/
module

public import proofs.«01_k».proof.Proof.Steps

@[expose] public section

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (c : Dev nD)

theorem wpb_ret {α : Type} (a : α) (Q : α → sProp 𝕄) : Q a ⊢ wpb c (.ret a) Q := by
  unfold wpb
  rw [wp_ret]
  iintro H
  imodintro
  iexact H

theorem pts_mono {sp : Space} {s : Shape} {e : EltTy} {v : View sig .tc sp s e} {q : PosShare TreeShare}
    {P P' : v.ty.Contents (Elt F) → Prop} (h : ∀ f, P f → P' f) : pts c v q P ⊢ pts c v q P' := by
  unfold pts
  iintro ⟨%f, %hf, H⟩
  iexists f
  isplitr; · ipureintro; exact h f hf
  iexact H

/-- The contents of an argument's buffer are the launch's. -/
abbrev isArg (m : (ℓ : Loc nD τ sig) → Buf (Elt F) ℓ) (b : Ref sig .tc) (f : b.ty.Contents (Elt F)) : Prop := f = m ((c : Thread nD τ).loc b)

theorem pts_halve {sp : Space} {s : Shape} {e : EltTy} {v : View sig .tc sp s e} (q : PosShare TreeShare)
    {P : v.ty.Contents (Elt F) → Prop} : pts c v q P ⊢ iprop(pts c v q.left P ∗ pts c v q.right P) := by
  unfold pts
  iintro ⟨%f, %hf, H⟩
  ihave H := (pointsTo_share (PosShare.mem_left_op_right q)).1 $$ H
  icases H with ⟨H1, H2⟩
  isplitl [H1]
  · iexists f; isplitr; · (ipureintro; exact hf)
    iexact H1
  · iexists f; isplitr; · (ipureintro; exact hf)
    iexact H2

/-- A piece from its halves: the contents agree, so what is known of one half's holds. -/
theorem pts_unhalve {sp : Space} {s : Shape} {e : EltTy} {v : View sig .tc sp s e} (q : PosShare TreeShare)
    {P P' : v.ty.Contents (Elt F) → Prop} : iprop(pts c v q.left P ∗ pts c v q.right P') ⊢ pts c v q P := by
  unfold pts
  iintro ⟨⟨%f, %hf, H1⟩, ⟨%g, -, H2⟩⟩
  ihave %ha := pointsTo_agree $$ [H1 H2]
  · isplitl [H1] <;> iassumption
  ihave H2 := (Entails.of_eq (pointsTo_congr (f := g) (g := f) (fun i hi => ((ha i (Finset.mem_inter.mpr ⟨hi, hi⟩)).1).symm))) $$ H2
  iexists f
  isplitr; · ipureintro; exact hf
  iapply (pointsTo_share (PosShare.mem_left_op_right q)).2
  isplitl [H1] <;> iassumption

theorem pts_sub {sp : Space} {s : Shape} {e : EltTy} {mm : Memref sig .tc sp s e} (r : Rect s) {q : PosShare TreeShare}
    {P : mm.view.ty.Contents (Elt F) → Prop} : pts c mm.view q P ⊢ pts c (mm.access r) q P := by
  unfold pts
  iintro ⟨%f, %hf, H⟩
  ihave H := (pointsTo_split_subset (View.set_slice_subset mm.view r)).1 $$ H
  icases H with ⟨H1, -⟩
  iexists f
  isplitr; · ipureintro; exact hf
  iexact H1

theorem pts_whole (b : Ref sig .tc) (q : PosShare TreeShare) (P : b.ty.Contents (Elt F) → Prop) :
    pts c (Memref.whole b).view q P = iprop(∃ f : Buf (Elt F) ((c : Thread nD τ).loc b), ⌜P f⌝ ∗ (((c : Thread nD τ).loc b) ↦{q} f)) := by
  unfold pts; simp only [Memref.view_whole, View.set_whole]

theorem pts_split (b : Ref sig .tc) (r₀ r₁ : Rect b.ty.shape) (hd : Disjoint r₀.set r₁.set) {q : PosShare TreeShare} {P : b.ty.Contents (Elt F) → Prop} :
    pts c (Memref.whole b).view q P ⊢ iprop(pts c ((Memref.whole b).access r₀) q P ∗ pts c ((Memref.whole b).access r₁) q P) := by
  rw [pts_whole]
  unfold pts
  simp only [set_access]
  iintro ⟨%f, %hf, H⟩
  ihave H := (pointsTo_split_subset (Finset.subset_univ r₀.set)).1 $$ H
  icases H with ⟨H0, H⟩
  ihave H := (pointsTo_split_subset (I := r₁.set) (fun i hi => Finset.mem_sdiff.mpr ⟨Finset.mem_univ i, fun h => Finset.disjoint_left.mp hd h hi⟩)).1 $$ H
  icases H with ⟨H1, -⟩
  isplitl [H0]
  · iexists f; isplitr; · (ipureintro; exact hf)
    iexact H0
  · iexists f; isplitr; · (ipureintro; exact hf)
    iexact H1

theorem pts_join (b : Ref sig .tc) (r₀ r₁ : Rect b.ty.shape) (hd : Disjoint r₀.set r₁.set) (hu : r₀.set ∪ r₁.set = Finset.univ) {q : PosShare TreeShare}
    {P P' : b.ty.Contents (Elt F) → Prop} :
    iprop(pts c ((Memref.whole b).access r₀) q P ∗ pts c ((Memref.whole b).access r₁) q P') ⊢ pts c (Memref.whole b).view q (fun _ => True) := by
  rw [pts_whole]
  unfold pts
  simp only [set_access]
  iintro ⟨⟨%f, -, H0⟩, ⟨%g, -, H1⟩⟩
  ihave H := (pointsTo_join (ℓ := (c : Thread nD τ).loc b) (I := r₀.set) (J := r₁.set) hd) $$ [H0 H1]
  · isplitl [H0] <;> iassumption
  rw [hu]
  iexists _
  isplitr; · ipureintro; trivial
  iexact H

/-! ## Chunks of 128 rows of 256 -/

theorem rA_disj : Disjoint rA0.set rA1.set := Rect.unit_disjoint (0 : Fin 2) (Or.inl (by decide))
theorem rB_disj : Disjoint rB0.set rB1.set := Rect.unit_disjoint (0 : Fin 2) (Or.inl (by decide))

theorem rA_union : rA0.set ∪ rA1.set = Finset.univ := by
  ext i
  have h0 : (i 0).val < 256 := (i 0).isLt
  have h1 : (i 1).val < 640 := (i 1).isLt
  simp only [Finset.mem_union, Rect.mem_set_unit, Finset.mem_univ, iff_true, Fin.forall_fin_two]
  simp
  omega
theorem rB_union : rB0.set ∪ rB1.set = Finset.univ := by
  ext i
  have h0 : (i 0).val < 256 := (i 0).isLt
  have h1 : (i 1).val < 512 := (i 1).isLt
  simp only [Finset.mem_union, Rect.mem_set_unit, Finset.mem_univ, iff_true, Fin.forall_fin_two]
  simp
  omega

/-- Containment of rectangles of a whole buffer. -/
theorem acc_sub (b : Ref sig .tc) (r r' : Rect b.ty.shape) (h : r.set ⊆ r'.set) :
    ((Memref.whole b).access r).set ⊆ ((Memref.whole b).access r').set := by
  rw [set_access, set_access]; exact h

/-! ## The result's buffer after one, two, three and four stores -/

section Result
variable (m : (ℓ : Loc nD τ sig) → Buf (Elt F) ℓ)

def U1 (f : S512x512.Idx → Elt F .f32) : Prop := ∃ f₀, f = (ouM.access (rO0 c)).write (Elt F) f₀ (full0 m c) Finset.univ
def U2 (f : S512x512.Idx → Elt F .f32) : Prop := ∃ f₀, U1 c m f₀ ∧ f = (ouM.access (rO1 c)).write (Elt F) f₀ (full1 m c) Finset.univ
def U3 (f : S512x512.Idx → Elt F .f32) : Prop := ∃ f₀, U2 c m f₀ ∧ f = (ouM.access (rO2 c)).write (Elt F) f₀ (oth0 m c) Finset.univ
def U4 (f : S512x512.Idx → Elt F .f32) : Prop := ∃ f₀, U3 c m f₀ ∧ f = (ouM.access (rO3 c)).write (Elt F) f₀ (oth1 m c) Finset.univ

theorem U4_out {f : S512x512.Idx → Elt F .f32} (h : U4 c m f) : f = outAt m c := by
  obtain ⟨f₃, ⟨f₂, ⟨f₁, ⟨f₀, rfl⟩, rfl⟩, rfl⟩, rfl⟩ := h
  exact writes_out m c f₀

/-! ## The payloads, opened and built -/

theorem peerPay0 : iprop(anyPts c (rxM.access rA0) ∗ anyPts c (rxM.access rA1) ∗ anyPts c (roM.access rB0) ∗ anyPts c (roM.access rB1))
    ⊢ pay m (peer c) 0 := by
  show _ ⊢ iprop(anyPts (peer (peer c)) (rxM.access rA0) ∗ anyPts (peer (peer c)) (rxM.access rA1)
      ∗ anyPts (peer (peer c)) (roM.access rB0) ∗ anyPts (peer (peer c)) (roM.access rB1))
  rw [peer_peer]

theorem buddyPay1 : iprop(anyPts c (rsM.access rB0) ∗ anyPts c (rsM.access rB1)) ⊢ pay m (buddy c) 1 := by
  show _ ⊢ iprop(anyPts (buddy (buddy c)) (rsM.access rB0) ∗ anyPts (buddy (buddy c)) (rsM.access rB1))
  rw [buddy_buddy]

theorem peerPay2 : pts (peer c) (rxM.access rA0) fullShare (has0 (tok0 m c) (ids0 m c)) ⊢ pay m (peer c) 2 := by
  show _ ⊢ pts (peer c) (rxM.access rA0) fullShare (has0 (tok0 m (peer (peer c))) (ids0 m (peer (peer c))))
  rw [peer_peer]

theorem peerPay3 : pts (peer c) (rxM.access rA1) fullShare (has1 (tok1 m c) (ids1 m c)) ⊢ pay m (peer c) 3 := by
  show _ ⊢ pts (peer c) (rxM.access rA1) fullShare (has1 (tok1 m (peer (peer c))) (ids1 m (peer (peer c))))
  rw [peer_peer]

theorem peerPay4 : valPts (peer c) (roM.access rB0) (sent0 m c) ⊢ pay m (peer c) 4 := by
  show _ ⊢ valPts (peer c) (roM.access rB0) (sent0 m (peer (peer c)))
  rw [peer_peer]

theorem peerPay5 : valPts (peer c) (roM.access rB1) (sent1 m c) ⊢ pay m (peer c) 5 := by
  show _ ⊢ valPts (peer c) (roM.access rB1) (sent1 m (peer (peer c)))
  rw [peer_peer]

theorem buddyPay6 : valPts (buddy c) (rsM.access rB0) (swp0 m c) ⊢ pay m (buddy c) 6 := by
  show _ ⊢ valPts (buddy c) (rsM.access rB0) (swp0 m (buddy (buddy c)))
  rw [buddy_buddy]

theorem buddyPay7 : valPts (buddy c) (rsM.access rB1) (swp1 m c) ⊢ pay m (buddy c) 7 := by
  show _ ⊢ valPts (buddy c) (rsM.access rB1) (swp1 m (buddy (buddy c)))
  rw [buddy_buddy]

theorem pay0 : pay m c 0 ⊢ iprop(anyPts (peer c) (rxM.access rA0) ∗ anyPts (peer c) (rxM.access rA1)
    ∗ anyPts (peer c) (roM.access rB0) ∗ anyPts (peer c) (roM.access rB1)) := .refl
theorem pay1 : pay m c 1 ⊢ iprop(anyPts (buddy c) (rsM.access rB0) ∗ anyPts (buddy c) (rsM.access rB1)) := .refl
theorem pay2 : pay m c 2 ⊢ pts c (rxM.access rA0) fullShare (has0 (tok0 m (peer c)) (ids0 m (peer c))) := .refl
theorem pay3 : pay m c 3 ⊢ pts c (rxM.access rA1) fullShare (has1 (tok1 m (peer c)) (ids1 m (peer c))) := .refl
theorem pay4 : pay m c 4 ⊢ valPts c (roM.access rB0) (sent0 m (peer c)) := .refl
theorem pay5 : pay m c 5 ⊢ valPts c (roM.access rB1) (sent1 m (peer c)) := .refl
theorem pay6 : pay m c 6 ⊢ valPts c (rsM.access rB0) (swp0 m (buddy c)) := .refl
theorem pay7 : pay m c 7 ⊢ valPts c (rsM.access rB1) (swp1 m (buddy c)) := .refl
theorem pay8 : pay m c 8 ⊢ pts c (xbM.access rA0) fullShare.right (fun _ => True) := .refl
theorem pay9 : pay m c 9 ⊢ pts c (xbM.access rA1) fullShare.right (fun _ => True) := .refl
theorem pay10 : pay m c 10 ⊢ anyPts c (soM.access rB0) := .refl
theorem pay11 : pay m c 11 ⊢ anyPts c (soM.access rB1) := .refl
theorem pay12 : pay m c 12 ⊢ anyPts c (swM.access rB0) := .refl
theorem pay13 : pay m c 13 ⊢ anyPts c (swM.access rB1) := .refl
theorem pay14 : pay m c 14 ⊢ valPts c w1M.view (m ((c : Thread nD τ).loc main_arg2)) := .refl
theorem pay15 : pay m c 15 ⊢ valPts c w2M.view (m ((c : Thread nD τ).loc main_arg3)) := .refl
theorem pay16 : pay m c 16 ⊢ valPts c (xvM.access rB0) (xl0 m c) := .refl
theorem pay17 : pay m c 17 ⊢ valPts c (xvM.access rB1) (xl1 m c) := .refl

end Result

/-! ## What the copies and waits count -/

theorem am2 : (rxM.slice rA0 (fun _ => rfl)).view.amount (csem 2) = amt 2 := rfl
theorem cr2 : (rxM.slice rA0 (fun _ => rfl)).view.dmaCredit = amt 2 := rfl
theorem am3 : (rxM.slice rA1 (fun _ => rfl)).view.amount (csem 3) = amt 3 := rfl
theorem cr3 : (rxM.slice rA1 (fun _ => rfl)).view.dmaCredit = amt 3 := rfl
theorem am4 : (roM.slice rB0 (fun _ => rfl)).view.amount (csem 4) = amt 4 := rfl
theorem cr4 : (roM.slice rB0 (fun _ => rfl)).view.dmaCredit = amt 4 := rfl
theorem am5 : (roM.slice rB1 (fun _ => rfl)).view.amount (csem 5) = amt 5 := rfl
theorem cr5 : (roM.slice rB1 (fun _ => rfl)).view.dmaCredit = amt 5 := rfl
theorem am6 : (rsM.slice rB0 (fun _ => rfl)).view.amount (csem 6) = amt 6 := rfl
theorem cr6 : (rsM.slice rB0 (fun _ => rfl)).view.dmaCredit = amt 6 := rfl
theorem am7 : (rsM.slice rB1 (fun _ => rfl)).view.amount (csem 7) = amt 7 := rfl
theorem cr7 : (rsM.slice rB1 (fun _ => rfl)).view.dmaCredit = amt 7 := rfl
theorem cr8 : (xbM.slice rA0 (fun _ => rfl)).view.dmaCredit = amt 8 := rfl
theorem cr9 : (xbM.slice rA1 (fun _ => rfl)).view.dmaCredit = amt 9 := rfl
theorem cr10 : (soM.slice rB0 (fun _ => rfl)).view.dmaCredit = amt 10 := rfl
theorem cr11 : (soM.slice rB1 (fun _ => rfl)).view.dmaCredit = amt 11 := rfl
theorem cr12 : (swM.slice rB0 (fun _ => rfl)).view.dmaCredit = amt 12 := rfl
theorem cr13 : (swM.slice rB1 (fun _ => rfl)).view.dmaCredit = amt 13 := rfl
theorem am14 : w1M.view.amount (csem 14) = amt 14 := rfl
theorem cr14 : w1M.view.dmaCredit = amt 14 := rfl
theorem am15 : w2M.view.amount (csem 15) = amt 15 := rfl
theorem cr15 : w2M.view.dmaCredit = amt 15 := rfl
theorem am16 : (xvM.slice rB0 (fun _ => rfl)).view.amount (csem 16) = amt 16 := rfl
theorem cr16 : (xvM.slice rB0 (fun _ => rfl)).view.dmaCredit = amt 16 := rfl
theorem am17 : (xvM.slice rB1 (fun _ => rfl)).view.amount (csem 17) = amt 17 := rfl
theorem cr17 : (xvM.slice rB1 (fun _ => rfl)).view.dmaCredit = amt 17 := rfl
theorem amt8 : amt 8 = amt 2 := rfl
theorem amt9 : amt 9 = amt 3 := rfl
theorem amt10 : amt 10 = amt 4 := rfl
theorem amt11 : amt 11 = amt 5 := rfl
theorem amt12 : amt 12 = amt 6 := rfl
theorem amt13 : amt 13 = amt 7 := rfl

end Cert.Moe
-- ==== Proof.Part1.lean ====
/-
The start of the body: the copies out of the arguments, the two signals, the barrier wait, the expert numbers.
-/
module

public import proofs.«01_k».proof.Proof.Pieces

@[expose] public section

set_option maxRecDepth 8000

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 18 → ℕ)

abbrev prog1 := k0_part1 (F := F) xM (Memref.isWhole_whole _) asM (Memref.isWhole_whole _) W1M (Memref.isWhole_whole _) W2M (Memref.isWhole_whole _) ouM (Memref.isWhole_whole _) w1M (Memref.isWhole_whole _) w2M (Memref.isWhole_whole _) xvM (Memref.isWhole_whole _) xbM (Memref.isWhole_whole _) rxM (Memref.isWhole_whole _) soM (Memref.isWhole_whole _) roM (Memref.isWhole_whole _) swM (Memref.isWhole_whole _) rsM (Memref.isWhole_whole _) cc0_scratch9 cc0_scratch10 cc0_scratch11 cc0_scratch12

abbrev prog2 := k0_part2 (F := F) xM (Memref.isWhole_whole _) asM (Memref.isWhole_whole _) W1M (Memref.isWhole_whole _) W2M (Memref.isWhole_whole _) ouM (Memref.isWhole_whole _) w1M (Memref.isWhole_whole _) w2M (Memref.isWhole_whole _) xvM (Memref.isWhole_whole _) xbM (Memref.isWhole_whole _) rxM (Memref.isWhole_whole _) soM (Memref.isWhole_whole _) roM (Memref.isWhole_whole _) swM (Memref.isWhole_whole _) rsM (Memref.isWhole_whole _) cc0_scratch9 cc0_scratch10 cc0_scratch11 cc0_scratch12

theorem run1 (c : Dev nD) (q : PosShare TreeShare) {Q} :
    iprop(recs m K ∗ pts c (xM.access (rX0 c)) q (isArg c m main_arg0) ∗ anyPts c (xvM.access rB0) ∗ tok c 16 ∗ atp c 16)
      ⊢ iprop((∀ r, ⌜r.1 = c ∧ r.2.1 = xw c⌝ -∗ ticket c 16 -∗ Q r) -∗ wpb c (prog1 (F := F)) Q) := by
  unfold prog1
  simp only [k0_part1_eq_skeleton]; unfold k0_part1_skel
  simp only [semSignalWord, semWaitWord, Prog.lift, Prog.bind_op, Prog.bind_ret, Prog.pure_eq_ret, wp_deviceId]
  iintro ⟨#HR, HX, HV, Ht, Ha⟩ Hk
  iapply (step_copy m K c 16 (sm := xM.slice (rX0 c) (fun _ => rfl)) (dm := xvM.slice rB0 (fun _ => rfl)) (q := q) (P := isArg c m main_arg0)
    (P' := fun f => (xvM.access rB0).read (Elt F) f = xl0 m c) (fun fs fd h => by rw [h]; exact View.read_write_univ _ _) am16 .refl) $$ [HX HV Ht Ha]
  · isplitr; · iexact HR
    isplitl [HX]; · iexact HX
    isplitl [HV]; · iexact HV
    isplitl [Ht]; · iexact Ht
    iexact Ha
  iintro T16
  iapply wpb_ret
  iapply Hk $$ [] T16
  ipureintro; exact ⟨rfl, rfl⟩

theorem run2 (c : Dev nD) (q : PosShare TreeShare) (v2 v5 v8 v9 v10 v21 : BitVec 32) {Q} :
    iprop(recs m K ∗ own c [0, 1, 2, 3, 4, 5, 6, 7]
        ∗ (pts c (xM.access (rX1 c)) q (isArg c m main_arg0) ∗ anyPts c (xvM.access rB1) ∗ tok c 17 ∗ atp c 17)
        ∗ (pts c W1M.view q (isArg c m main_arg2) ∗ anyPts c w1M.view ∗ tok c 14 ∗ atp c 14)
        ∗ (pts c W2M.view q (isArg c m main_arg3) ∗ anyPts c w2M.view ∗ tok c 15 ∗ atp c 15)
        ∗ (tok (peer c) 0 ∗ anyPts c (rxM.access rA0) ∗ anyPts c (rxM.access rA1) ∗ anyPts c (roM.access rB0) ∗ anyPts c (roM.access rB1))
        ∗ (tok (buddy c) 1 ∗ anyPts c (rsM.access rB0) ∗ anyPts c (rsM.access rB1))
        ∗ ticket c 0 ∗ ticket c 16
        ∗ pts c asM.view fullShare (fun f => f = asn m c) ∗ anyPts c xbM.view)
      ⊢ iprop(((own c [2, 3, 4, 5, 6, 7] ∗ ticket c 17 ∗ ticket c 14 ∗ ticket c 15 ∗ done c 0 ∗ pay m c 0 ∗ done c 16 ∗ pay m c 16
          ∗ pts c asM.view fullShare (fun f => f = asn m c)
          ∗ pts c (xbM.access rA0) fullShare (hasI (idcol m c)) ∗ pts c (xbM.access rA1) fullShare (hasI (idcol m c))) -∗ Q ⟨⟩)
        -∗ wpb c (prog2 (F := F) c v2 v5 v8 v9 v10 v21) Q) := by
  unfold prog2
  simp only [k0_part2_eq_skeleton]; unfold k0_part2_skel
  simp only [semSignalWord, semWaitWord, Prog.lift, Prog.bind_op, Prog.bind_ret, Prog.pure_eq_ret, wp_deviceId]
  iintro ⟨#HR, HO, ⟨HX, HV, Ht, Ha⟩, ⟨HW1, Hw1, Ht14, Ha14⟩, ⟨HW2, Hw2, Ht15, Ha15⟩, ⟨Ht0, HP0⟩, ⟨Ht1, HP1⟩, T0, T16, Has, Hxb⟩ Hk
  iapply (step_copy m K c 17 (sm := xM.slice (rX1 c) (fun _ => rfl)) (dm := xvM.slice rB1 (fun _ => rfl)) (q := q) (P := isArg c m main_arg0)
    (P' := fun f => (xvM.access rB1).read (Elt F) f = xl1 m c) (fun fs fd h => by rw [h]; exact View.read_write_univ _ _) am17 .refl) $$ [HX HV Ht Ha]
  · isplitr; · iexact HR
    isplitl [HX]; · iexact HX
    isplitl [HV]; · iexact HV
    isplitl [Ht]; · iexact Ht
    iexact Ha
  iintro T17
  iapply (step_copy m K c 14 (sm := W1M) (dm := w1M) (q := q) (P := isArg c m main_arg2)
    (P' := fun f => w1M.view.read (Elt F) f = m ((c : Thread nD τ).loc main_arg2)) (fun fs fd h => by rw [h]; exact View.read_write_univ (v := w1M.view) _ _) am14 .refl) $$ [HW1 Hw1 Ht14 Ha14]
  · isplitr; · iexact HR
    isplitl [HW1]; · iexact HW1
    isplitl [Hw1]; · iexact Hw1
    isplitl [Ht14]; · iexact Ht14
    iexact Ha14
  iintro T14
  iapply (step_copy m K c 15 (sm := W2M) (dm := w2M) (q := q) (P := isArg c m main_arg3)
    (P' := fun f => w2M.view.read (Elt F) f = m ((c : Thread nD τ).loc main_arg3)) (fun fs fd h => by rw [h]; exact View.read_write_univ (v := w2M.view) _ _) am15 .refl) $$ [HW2 Hw2 Ht15 Ha15]
  · isplitr; · iexact HR
    isplitl [HW2]; · iexact HW2
    isplitl [Hw2]; · iexact Hw2
    isplitl [Ht15]; · iexact Ht15
    iexact Ha15
  iintro T15
  ihave HP0 := (peerPay0 c m) $$ HP0
  ihave HP1 := (buddyPay1 c m) $$ HP1
  iapply (step_signal m K c _ 0 [1, 2, 3, 4, 5, 6, 7] (dev1_eq c) rfl rfl) $$ [HO Ht0 HP0]
  · isplitr; · iexact HR
    isplitl [HO]; · iexact HO
    isplitl [Ht0]; · iexact Ht0
    iexact HP0
  iintro HO
  iapply (step_signal m K c _ 1 [2, 3, 4, 5, 6, 7] (dev2_eq c) rfl rfl) $$ [HO Ht1 HP1]
  · isplitr; · iexact HR
    isplitl [HO]; · iexact HO
    isplitl [Ht1]; · iexact Ht1
    iexact HP1
  iintro HO
  iapply (step_wait m K c 0 [2, 3, 4, 5, 6, 7] (wpE_semWait_eq 𝒱₀ (c : Thread nD τ) none Set.univ) rfl (by decide)) $$ [HO T0]
  · isplitr; · iexact HR
    isplitl [HO]; · iexact HO
    iexact T0
  iintro ⟨HO, D0, HP⟩
  iapply (step_load_whole (mm := asM) c (rS c) ((asM.access (rS c)).read (Elt F) (asn m c)) (fun f h => by rw [h])) $$ Has; iintro Has
  iapply (step_load_whole_any (mm := xbM) c rI) $$ Hxb; iintro %w Hxb
  iapply (step_store_whole (mm := xbM) c rI (hasI (idcol m c)) (fun f _ => store_ids (idcol m c) f)) $$ Hxb; iintro Hxb
  iapply (step_wait m K c 16 [2, 3, 4, 5, 6, 7] (wpE_waitDma2_eq 𝒱₀ (c : Thread nD τ) none Set.univ) cr16 (by decide)) $$ [HO T16]
  · isplitr; · iexact HR
    isplitl [HO]; · iexact HO
    iexact T16
  iintro ⟨HO, D16, HP16⟩
  ihave Hxb := (pts_split c cc0_scratch3 rA0 rA1 rA_disj) $$ Hxb
  icases Hxb with ⟨Hx0, Hx1⟩
  iapply wpb_ret
  iapply Hk $$ [HO T17 T14 T15 D0 HP D16 HP16 Has Hx0 Hx1]
  · isplitl [HO]; · iexact HO
    isplitl [T17]; · iexact T17
    isplitl [T14]; · iexact T14
    isplitl [T15]; · iexact T15
    isplitl [D0]; · iexact D0
    isplitl [HP]; · iexact HP
    isplitl [D16]; · iexact D16
    isplitl [HP16]; · iexact HP16
    isplitl [Has]; · iexact Has
    isplitl [Hx0]; · iexact Hx0
    iexact Hx1

end Cert.Moe
-- ==== Proof.Part2.lean ====
/-
The body up to the first chunk sent back: rounding the tokens, sending both chunks to the peer, the weights, and the
first two products with the experts.
-/
module

public import proofs.«01_k».proof.Proof.Pieces

@[expose] public section

set_option maxRecDepth 8000

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 18 → ℕ)

abbrev prog3 := k0_part3 (F := F) xM (Memref.isWhole_whole _) asM (Memref.isWhole_whole _) W1M (Memref.isWhole_whole _) W2M (Memref.isWhole_whole _) ouM (Memref.isWhole_whole _) w1M (Memref.isWhole_whole _) w2M (Memref.isWhole_whole _) xvM (Memref.isWhole_whole _) xbM (Memref.isWhole_whole _) rxM (Memref.isWhole_whole _) soM (Memref.isWhole_whole _) roM (Memref.isWhole_whole _) swM (Memref.isWhole_whole _) rsM (Memref.isWhole_whole _) cc0_scratch9 cc0_scratch10 cc0_scratch11 cc0_scratch12

abbrev prog4 := k0_part4 (F := F) xM (Memref.isWhole_whole _) asM (Memref.isWhole_whole _) W1M (Memref.isWhole_whole _) W2M (Memref.isWhole_whole _) ouM (Memref.isWhole_whole _) w1M (Memref.isWhole_whole _) w2M (Memref.isWhole_whole _) xvM (Memref.isWhole_whole _) xbM (Memref.isWhole_whole _) rxM (Memref.isWhole_whole _) soM (Memref.isWhole_whole _) roM (Memref.isWhole_whole _) swM (Memref.isWhole_whole _) rsM (Memref.isWhole_whole _) cc0_scratch9 cc0_scratch10 cc0_scratch11 cc0_scratch12

abbrev prog5 := k0_part5 (F := F) xM (Memref.isWhole_whole _) asM (Memref.isWhole_whole _) W1M (Memref.isWhole_whole _) W2M (Memref.isWhole_whole _) ouM (Memref.isWhole_whole _) w1M (Memref.isWhole_whole _) w2M (Memref.isWhole_whole _) xvM (Memref.isWhole_whole _) xbM (Memref.isWhole_whole _) rxM (Memref.isWhole_whole _) soM (Memref.isWhole_whole _) roM (Memref.isWhole_whole _) swM (Memref.isWhole_whole _) rsM (Memref.isWhole_whole _) cc0_scratch9 cc0_scratch10 cc0_scratch11 cc0_scratch12

abbrev prog6 := k0_part6 (F := F) xM (Memref.isWhole_whole _) asM (Memref.isWhole_whole _) W1M (Memref.isWhole_whole _) W2M (Memref.isWhole_whole _) ouM (Memref.isWhole_whole _) w1M (Memref.isWhole_whole _) w2M (Memref.isWhole_whole _) xvM (Memref.isWhole_whole _) xbM (Memref.isWhole_whole _) rxM (Memref.isWhole_whole _) soM (Memref.isWhole_whole _) roM (Memref.isWhole_whole _) swM (Memref.isWhole_whole _) rsM (Memref.isWhole_whole _) cc0_scratch9 cc0_scratch10 cc0_scratch11 cc0_scratch12

theorem run3 (c : Dev nD) (v5 v8 v9 : BitVec 32) {Q} :
    iprop(recs m K ∗ own c [2, 3, 4, 5, 6, 7]
        ∗ pay m c 16
        ∗ ticket c 17
        ∗ pts c (xbM.access rA0) fullShare (hasI (idcol m c))
        ∗ pts c (xbM.access rA1) fullShare (hasI (idcol m c))
        ∗ anyPts (peer c) (rxM.access rA0)
        ∗ tok c 8
        ∗ atp c 8
        ∗ tok (peer c) 2)
      ⊢ iprop((∀ r, ⌜True⌝ -∗ (own c [3, 4, 5, 6, 7]
          ∗ done c 17
          ∗ ticket c 8
          ∗ anyPts c (xvM.access rB0)
          ∗ anyPts c (xvM.access rB1)
          ∗ pts c (xbM.access rA0) fullShare.left (has0 (tok0 m c) (ids0 m c))
          ∗ pts c (xbM.access rA1) fullShare (has1 (tok1 m c) (ids1 m c))) -∗ Q r)
        -∗ wpb c (prog3 (F := F) c v5 v8 v9) Q) := by
  unfold prog3
  simp only [k0_part3_eq_skeleton]; unfold k0_part3_skel
  simp only [semSignalWord, semWaitWord, Prog.lift, Prog.bind_op, Prog.bind_ret, Prog.pure_eq_ret, wp_deviceId]
  iintro ⟨#HR, HO, HV0, T17, Hx0, Hx1, Hr, Ht, Ha, Ht'⟩ Hk
  ihave HV0 := (pay16 c m) $$ HV0
  iapply (step_load_rect (mm := xvM) c rB0 rB0 (Finset.Subset.refl _) (xl0 m c) (fun f h => h)) $$ HV0; iintro HV0
  iapply (step_load_any (mm := xbM) c rT0 rA0 (acc_sub cc0_scratch3 rT0 rA0 rT0_sub)) $$ Hx0; iintro %w Hx0
  iapply (step_store_rect (mm := xbM) c rT0 rA0 (acc_sub cc0_scratch3 rT0 rA0 rT0_sub) (has0 (tok0 m c) (ids0 m c)) (fun f h => store_tok0 m c (tok0 m c) f h)) $$ Hx0; iintro Hx0
  ihave Hx0 := (pts_halve c fullShare) $$ Hx0
  icases Hx0 with ⟨Hx0, Hxr⟩
  iapply (step_send m K c _ 2 8 [3, 4, 5, 6, 7] (dev3_eq c) (sm := xbM.slice rA0 (fun _ => rfl)) (dm := rxM.slice rA0 (fun _ => rfl)) (q := fullShare.right)
    (P := has0 (tok0 m c) (ids0 m c)) (P' := has0 (tok0 m c) (ids0 m c)) (fun fs fd h => land_tok0 fs fd h) am2 amt8
    (pts_mono c fun _ _ => trivial) (peerPay2 c m)) $$ [HO Hxr Hr Ht Ha Ht']
  · isplitr; · iexact HR
    isplitl [HO]; · iexact HO
    isplitl [Hxr]; · iexact Hxr
    isplitl [Hr]; · iexact Hr
    isplitl [Ht]; · iexact Ht
    isplitl [Ha]; · iexact Ha
    iexact Ht'
  iintro ⟨HO, T8⟩
  iapply (step_wait m K c 17 [3, 4, 5, 6, 7] (wpE_waitDma2_eq 𝒱₀ (c : Thread nD τ) none Set.univ) cr17 (by decide)) $$ [HO T17]
  · isplitr; · iexact HR
    isplitl [HO]; · iexact HO
    iexact T17
  iintro ⟨HO, D17, HV1⟩
  ihave HV1 := (pay17 c m) $$ HV1
  iapply (step_load_rect (mm := xvM) c rB1 rB1 (Finset.Subset.refl _) (xl1 m c) (fun f h => h)) $$ HV1; iintro HV1
  iapply (step_load_any (mm := xbM) c rT1 rA1 (acc_sub cc0_scratch3 rT1 rA1 rT1_sub)) $$ Hx1; iintro %w Hx1
  iapply (step_store_rect (mm := xbM) c rT1 rA1 (acc_sub cc0_scratch3 rT1 rA1 rT1_sub) (has1 (tok1 m c) (ids1 m c)) (fun f h => store_tok1 m c (tok1 m c) f h)) $$ Hx1; iintro Hx1
  ihave HV0 := (pts_mono (v := xvM.access rB0) c fun _ _ => trivial) $$ HV0
  ihave HV1 := (pts_mono (v := xvM.access rB1) c fun _ _ => trivial) $$ HV1
  iapply wpb_ret
  iapply Hk $$ [] [HO D17 T8 HV0 HV1 Hx0 Hx1]
  · ipureintro; exact trivial
  · isplitl [HO]; · iexact HO
    isplitl [D17]; · iexact D17
    isplitl [T8]; · iexact T8
    isplitl [HV0]; · iexact HV0
    isplitl [HV1]; · iexact HV1
    isplitl [Hx0]; · iexact Hx0
    iexact Hx1

theorem run4 (c : Dev nD) (v8 v89 v90 : BitVec 32) {Q} :
    iprop(recs m K ∗ own c [3, 4, 5, 6, 7]
        ∗ ticket c 14
        ∗ ticket c 15
        ∗ pts c (xbM.access rA0) fullShare.left (has0 (tok0 m c) (ids0 m c))
        ∗ pts c (xbM.access rA1) fullShare (has1 (tok1 m c) (ids1 m c))
        ∗ anyPts (peer c) (rxM.access rA1)
        ∗ tok c 9
        ∗ atp c 9
        ∗ tok (peer c) 3)
      ⊢ iprop((∀ r, ⌜r = ⟨w10 m c, w11 m c, w20 m c, w21 m c, tok0 m c, ids0 m c, k0_pay8 (F := F), k0_pay9 (F := F) (xw c)⟩⌝ -∗ (own c [4, 5, 6, 7]
          ∗ ticket c 9
          ∗ done c 14
          ∗ done c 15
          ∗ anyPts c w1M.view
          ∗ anyPts c w2M.view
          ∗ pts c (xbM.access rA0) fullShare.left (has0 (tok0 m c) (ids0 m c))
          ∗ pts c (xbM.access rA1) fullShare.left (has1 (tok1 m c) (ids1 m c))) -∗ Q r)
        -∗ wpb c (prog4 (F := F) c (xw c) v8 v89 v90) Q) := by
  unfold prog4
  simp only [k0_part4_eq_skeleton]; unfold k0_part4_skel
  simp only [semSignalWord, semWaitWord, Prog.lift, Prog.bind_op, Prog.bind_ret, Prog.pure_eq_ret, wp_deviceId]
  iintro ⟨#HR, HO, T14, T15, Hx0, Hx1, Hr, Ht, Ha, Ht'⟩ Hk
  ihave Hx1 := (pts_halve c fullShare) $$ Hx1
  icases Hx1 with ⟨Hx1, Hxr⟩
  iapply (step_send m K c _ 3 9 [4, 5, 6, 7] (dev4_eq c) (sm := xbM.slice rA1 (fun _ => rfl)) (dm := rxM.slice rA1 (fun _ => rfl)) (q := fullShare.right)
    (P := has1 (tok1 m c) (ids1 m c)) (P' := has1 (tok1 m c) (ids1 m c)) (fun fs fd h => land_tok1 fs fd h) am3 amt9
    (pts_mono c fun _ _ => trivial) (peerPay3 c m)) $$ [HO Hxr Hr Ht Ha Ht']
  · isplitr; · iexact HR
    isplitl [HO]; · iexact HO
    isplitl [Hxr]; · iexact Hxr
    isplitl [Hr]; · iexact Hr
    isplitl [Ht]; · iexact Ht
    isplitl [Ha]; · iexact Ha
    iexact Ht'
  iintro ⟨HO, T9⟩
  iapply (step_wait m K c 14 [4, 5, 6, 7] (wpE_waitDma2_eq 𝒱₀ (c : Thread nD τ) none Set.univ) cr14 (by decide)) $$ [HO T14]
  · isplitr; · iexact HR
    isplitl [HO]; · iexact HO
    iexact T14
  iintro ⟨HO, D14, Hw1⟩
  ihave Hw1 := (pay14 c m) $$ Hw1
  iapply (step_wait m K c 15 [4, 5, 6, 7] (wpE_waitDma2_eq 𝒱₀ (c : Thread nD τ) none Set.univ) cr15 (by decide)) $$ [HO T15]
  · isplitr; · iexact HR
    isplitl [HO]; · iexact HO
    iexact T15
  iintro ⟨HO, D15, Hw2⟩
  ihave Hw2 := (pay15 c m) $$ Hw2
  iapply (step_load_whole (mm := w1M) c rW0 (P := fun f => w1M.view.read (Elt F) f = m ((c : Thread nD τ).loc main_arg2)) ((w1M.access rW0).read (Elt F) (m ((c : Thread nD τ).loc main_arg2))) (fun f h => congrArg ((w1M.access rW0).read (Elt F)) h)) $$ Hw1; iintro Hw1
  iapply (step_load_whole (mm := w1M) c rW1 (P := fun f => w1M.view.read (Elt F) f = m ((c : Thread nD τ).loc main_arg2)) ((w1M.access rW1).read (Elt F) (m ((c : Thread nD τ).loc main_arg2))) (fun f h => congrArg ((w1M.access rW1).read (Elt F)) h)) $$ Hw1; iintro Hw1
  iapply (step_load_whole (mm := w2M) c rV0 (P := fun f => w2M.view.read (Elt F) f = m ((c : Thread nD τ).loc main_arg3)) ((w2M.access rV0).read (Elt F) (m ((c : Thread nD τ).loc main_arg3))) (fun f h => congrArg ((w2M.access rV0).read (Elt F)) h)) $$ Hw2; iintro Hw2
  iapply (step_load_whole (mm := w2M) c rV1 (P := fun f => w2M.view.read (Elt F) f = m ((c : Thread nD τ).loc main_arg3)) ((w2M.access rV1).read (Elt F) (m ((c : Thread nD τ).loc main_arg3))) (fun f h => congrArg ((w2M.access rV1).read (Elt F)) h)) $$ Hw2; iintro Hw2
  iapply (step_load_rect (mm := xbM) c rT0 rA0 (acc_sub cc0_scratch3 rT0 rA0 rT0_sub) (tok0 m c) (fun f h => h.1)) $$ Hx0; iintro Hx0
  iapply (step_load_rect (mm := xbM) c rI0 rA0 (acc_sub cc0_scratch3 rI0 rA0 rI0_sub) (ids0 m c) (fun f h => h.2)) $$ Hx0; iintro Hx0
  ihave Hw1 := (pts_mono (v := w1M.view) c fun _ _ => trivial) $$ Hw1
  ihave Hw2 := (pts_mono (v := w2M.view) c fun _ _ => trivial) $$ Hw2
  iapply wpb_ret
  iapply Hk $$ [] [HO T9 D14 D15 Hw1 Hw2 Hx0 Hx1]
  · ipureintro; exact rfl
  · isplitl [HO]; · iexact HO
    isplitl [T9]; · iexact T9
    isplitl [D14]; · iexact D14
    isplitl [D15]; · iexact D15
    isplitl [Hw1]; · iexact Hw1
    isplitl [Hw2]; · iexact Hw2
    isplitl [Hx0]; · iexact Hx0
    iexact Hx1

theorem run5 (c : Dev nD) (v5 v8 v9 : BitVec 32) {Q} :
    iprop(recs m K ∗ own c [4, 5, 6, 7]
        ∗ ticket c 2)
      ⊢ iprop((∀ r, ⌜r = own0 m c⌝ -∗ (own c [4, 5, 6, 7]
          ∗ done c 2
          ∗ pts c (rxM.access rA0) fullShare (has0 (tok0 m (peer c)) (ids0 m (peer c)))) -∗ Q r)
        -∗ wpb c (prog5 (F := F) (xw c) v5 v8 v9 (w10 m c) (w11 m c) (w20 m c) (w21 m c) (tok0 m c) (ids0 m c) (k0_pay8 (F := F)) (k0_pay9 (F := F) (xw c))) Q) := by
  unfold prog5
  simp only [k0_part5_eq_skeleton]; unfold k0_part5_skel
  simp only [semSignalWord, semWaitWord, Prog.lift, Prog.bind_op, Prog.bind_ret, Prog.pure_eq_ret, wp_deviceId]
  iintro ⟨#HR, HO, T2⟩ Hk
  iapply (step_wait m K c 2 [4, 5, 6, 7] (wpE_waitDma2_eq 𝒱₀ (c : Thread nD τ) none Set.univ) cr2 (by decide)) $$ [HO T2]
  · isplitr; · iexact HR
    isplitl [HO]; · iexact HO
    iexact T2
  iintro ⟨HO, D2, Hr⟩
  ihave Hr := (pay2 c m) $$ Hr
  iapply wpb_ret
  iapply Hk $$ [] [HO D2 Hr]
  · ipureintro; exact rfl
  · isplitl [HO]; · iexact HO
    isplitl [D2]; · iexact D2
    iexact Hr

theorem run6 (c : Dev nD) {Q} :
    iprop(recs m K ∗ pts c (rxM.access rA0) fullShare (has0 (tok0 m (peer c)) (ids0 m (peer c)))
        ∗ anyPts c (soM.access rB0))
      ⊢ iprop((∀ r, ⌜True⌝ -∗ (pts c (rxM.access rA0) fullShare (has0 (tok0 m (peer c)) (ids0 m (peer c)))
          ∗ valPts c (soM.access rB0) (sent0 m c)) -∗ Q r)
        -∗ wpb c (prog6 (F := F) (xw c) (w10 m c) (w11 m c) (w20 m c) (w21 m c)) Q) := by
  unfold prog6
  simp only [k0_part6_eq_skeleton]; unfold k0_part6_skel
  simp only [semSignalWord, semWaitWord, Prog.lift, Prog.bind_op, Prog.bind_ret, Prog.pure_eq_ret, wp_deviceId]
  iintro ⟨#HR, Hr, Hs⟩ Hk
  iapply (step_load_rect (mm := rxM) c rT0 rA0 (acc_sub cc0_scratch4 rT0 rA0 rT0_sub) (tok0 m (peer c)) (fun f h => h.1)) $$ Hr; iintro Hr
  iapply (step_load_rect (mm := rxM) c rI0 rA0 (acc_sub cc0_scratch4 rI0 rA0 rI0_sub) (ids0 m (peer c)) (fun f h => h.2)) $$ Hr; iintro Hr
  iapply (step_load_any (mm := soM) c rB0 rB0 (Finset.Subset.refl _)) $$ Hs; iintro %w Hs
  iapply (step_store_rect (mm := soM) c rB0 rB0 (Finset.Subset.refl _) (fun f => (soM.access rB0).read (Elt F) f = sent0 m c) (fun f _ => View.read_write_univ _ _)) $$ Hs; iintro Hs
  iapply wpb_ret
  iapply Hk $$ [] [Hr Hs]
  · ipureintro; exact trivial
  · isplitl [Hr]; · iexact Hr
    iexact Hs

end Cert.Moe
-- ==== Proof.Part3.lean ====
/-
The body from the first chunk sent back to the last of the device's own products.
-/
module

public import proofs.«01_k».proof.Proof.Pieces

@[expose] public section

set_option maxRecDepth 8000

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 18 → ℕ)

abbrev prog7 := k0_part7 (F := F) xM (Memref.isWhole_whole _) asM (Memref.isWhole_whole _) W1M (Memref.isWhole_whole _) W2M (Memref.isWhole_whole _) ouM (Memref.isWhole_whole _) w1M (Memref.isWhole_whole _) w2M (Memref.isWhole_whole _) xvM (Memref.isWhole_whole _) xbM (Memref.isWhole_whole _) rxM (Memref.isWhole_whole _) soM (Memref.isWhole_whole _) roM (Memref.isWhole_whole _) swM (Memref.isWhole_whole _) rsM (Memref.isWhole_whole _) cc0_scratch9 cc0_scratch10 cc0_scratch11 cc0_scratch12

abbrev prog8 := k0_part8 (F := F) xM (Memref.isWhole_whole _) asM (Memref.isWhole_whole _) W1M (Memref.isWhole_whole _) W2M (Memref.isWhole_whole _) ouM (Memref.isWhole_whole _) w1M (Memref.isWhole_whole _) w2M (Memref.isWhole_whole _) xvM (Memref.isWhole_whole _) xbM (Memref.isWhole_whole _) rxM (Memref.isWhole_whole _) soM (Memref.isWhole_whole _) roM (Memref.isWhole_whole _) swM (Memref.isWhole_whole _) rsM (Memref.isWhole_whole _) cc0_scratch9 cc0_scratch10 cc0_scratch11 cc0_scratch12

abbrev prog9 := k0_part9 (F := F) xM (Memref.isWhole_whole _) asM (Memref.isWhole_whole _) W1M (Memref.isWhole_whole _) W2M (Memref.isWhole_whole _) ouM (Memref.isWhole_whole _) w1M (Memref.isWhole_whole _) w2M (Memref.isWhole_whole _) xvM (Memref.isWhole_whole _) xbM (Memref.isWhole_whole _) rxM (Memref.isWhole_whole _) soM (Memref.isWhole_whole _) roM (Memref.isWhole_whole _) swM (Memref.isWhole_whole _) rsM (Memref.isWhole_whole _) cc0_scratch9 cc0_scratch10 cc0_scratch11 cc0_scratch12

theorem run7 (c : Dev nD) (v5 v8 v9 : BitVec 32) {Q} :
    iprop(recs m K ∗ own c [4, 5, 6, 7]
        ∗ ticket c 3
        ∗ valPts c (soM.access rB0) (sent0 m c)
        ∗ anyPts (peer c) (roM.access rB0)
        ∗ tok c 10
        ∗ atp c 10
        ∗ tok (peer c) 4)
      ⊢ iprop((∀ r, ⌜r = ⟨tok1 m (peer c), ids1 m (peer c), k0_pay12 (F := F), k0_pay13 (F := F) (xw c) (ids1 m (peer c)), k0_pay14 (F := F)⟩⌝ -∗ (own c [5, 6, 7]
          ∗ ticket c 10
          ∗ done c 3
          ∗ pts c (rxM.access rA1) fullShare (has1 (tok1 m (peer c)) (ids1 m (peer c)))) -∗ Q r)
        -∗ wpb c (prog7 (F := F) c (xw c) v5 v8 v9) Q) := by
  unfold prog7
  simp only [k0_part7_eq_skeleton]; unfold k0_part7_skel
  simp only [semSignalWord, semWaitWord, Prog.lift, Prog.bind_op, Prog.bind_ret, Prog.pure_eq_ret, wp_deviceId]
  iintro ⟨#HR, HO, T3, Hs, Hd, Ht, Ha, Ht'⟩ Hk
  iapply (step_send m K c _ 4 10 [5, 6, 7] (dev5_eq c) (sm := soM.slice rB0 (fun _ => rfl)) (dm := roM.slice rB0 (fun _ => rfl)) (q := fullShare)
    (P := fun f => (soM.access rB0).read (Elt F) f = sent0 m c) (P' := fun f => (roM.access rB0).read (Elt F) f = sent0 m c) (fun fs fd h => (View.read_write_univ _ _).trans h) am4 amt10
    (pts_mono c fun _ _ => trivial) (peerPay4 c m)) $$ [HO Hs Hd Ht Ha Ht']
  · isplitr; · iexact HR
    isplitl [HO]; · iexact HO
    isplitl [Hs]; · iexact Hs
    isplitl [Hd]; · iexact Hd
    isplitl [Ht]; · iexact Ht
    isplitl [Ha]; · iexact Ha
    iexact Ht'
  iintro ⟨HO, T10⟩
  iapply (step_wait m K c 3 [5, 6, 7] (wpE_waitDma2_eq 𝒱₀ (c : Thread nD τ) none Set.univ) cr3 (by decide)) $$ [HO T3]
  · isplitr; · iexact HR
    isplitl [HO]; · iexact HO
    iexact T3
  iintro ⟨HO, D3, Hr⟩
  ihave Hr := (pay3 c m) $$ Hr
  iapply (step_load_rect (mm := rxM) c rT1 rA1 (acc_sub cc0_scratch4 rT1 rA1 rT1_sub) (tok1 m (peer c)) (fun f h => h.1)) $$ Hr; iintro Hr
  iapply (step_load_rect (mm := rxM) c rI1 rA1 (acc_sub cc0_scratch4 rI1 rA1 rI1_sub) (ids1 m (peer c)) (fun f h => h.2)) $$ Hr; iintro Hr
  iapply wpb_ret
  iapply Hk $$ [] [HO T10 D3 Hr]
  · ipureintro; exact rfl
  · isplitl [HO]; · iexact HO
    isplitl [T10]; · iexact T10
    isplitl [D3]; · iexact D3
    iexact Hr

theorem run8 (c : Dev nD) (v5 v8 v9 : BitVec 32) {Q} :
    iprop(recs m K ∗ anyPts c (soM.access rB1))
      ⊢ iprop((∀ r, ⌜True⌝ -∗ (valPts c (soM.access rB1) (sent1 m c)) -∗ Q r)
        -∗ wpb c (prog8 (F := F) (xw c) v5 v8 v9 (w10 m c) (w11 m c) (w20 m c) (w21 m c) (tok1 m (peer c)) (ids1 m (peer c)) (k0_pay12 (F := F)) (k0_pay13 (F := F) (xw c) (ids1 m (peer c))) (k0_pay14 (F := F))) Q) := by
  unfold prog8
  simp only [k0_part8_eq_skeleton]; unfold k0_part8_skel
  simp only [semSignalWord, semWaitWord, Prog.lift, Prog.bind_op, Prog.bind_ret, Prog.pure_eq_ret, wp_deviceId]
  iintro ⟨#HR, Hs⟩ Hk
  iapply (step_load_any (mm := soM) c rB1 rB1 (Finset.Subset.refl _)) $$ Hs; iintro %w Hs
  iapply (step_store_rect (mm := soM) c rB1 rB1 (Finset.Subset.refl _) (fun f => (soM.access rB1).read (Elt F) f = sent1 m c) (fun f _ => View.read_write_univ _ _)) $$ Hs; iintro Hs
  iapply wpb_ret
  iapply Hk $$ [] [Hs]
  · ipureintro; exact trivial
  · iexact Hs

theorem run9 (c : Dev nD) {Q} :
    iprop(recs m K ∗ own c [5, 6, 7]
        ∗ ticket c 1
        ∗ pts c (xbM.access rA1) fullShare.left (has1 (tok1 m c) (ids1 m c))
        ∗ valPts c (soM.access rB1) (sent1 m c)
        ∗ anyPts (peer c) (roM.access rB1)
        ∗ tok c 11
        ∗ atp c 11
        ∗ tok (peer c) 5)
      ⊢ iprop((∀ r, ⌜r = own1 m c⌝ -∗ (own c [6, 7]
          ∗ ticket c 11
          ∗ done c 1
          ∗ pay m c 1
          ∗ pts c (xbM.access rA1) fullShare.left (has1 (tok1 m c) (ids1 m c))) -∗ Q r)
        -∗ wpb c (prog9 (F := F) c (xw c) (w10 m c) (w11 m c) (w20 m c) (w21 m c)) Q) := by
  unfold prog9
  simp only [k0_part9_eq_skeleton]; unfold k0_part9_skel
  simp only [semSignalWord, semWaitWord, Prog.lift, Prog.bind_op, Prog.bind_ret, Prog.pure_eq_ret, wp_deviceId]
  iintro ⟨#HR, HO, T1, Hx, Hs, Hd, Ht, Ha, Ht'⟩ Hk
  iapply (step_send m K c _ 5 11 [6, 7] (dev6_eq c) (sm := soM.slice rB1 (fun _ => rfl)) (dm := roM.slice rB1 (fun _ => rfl)) (q := fullShare)
    (P := fun f => (soM.access rB1).read (Elt F) f = sent1 m c) (P' := fun f => (roM.access rB1).read (Elt F) f = sent1 m c) (fun fs fd h => (View.read_write_univ _ _).trans h) am5 amt11
    (pts_mono c fun _ _ => trivial) (peerPay5 c m)) $$ [HO Hs Hd Ht Ha Ht']
  · isplitr; · iexact HR
    isplitl [HO]; · iexact HO
    isplitl [Hs]; · iexact Hs
    isplitl [Hd]; · iexact Hd
    isplitl [Ht]; · iexact Ht
    isplitl [Ha]; · iexact Ha
    iexact Ht'
  iintro ⟨HO, T11⟩
  iapply (step_load_rect (mm := xbM) c rT1 rA1 (acc_sub cc0_scratch3 rT1 rA1 rT1_sub) (tok1 m c) (fun f h => h.1)) $$ Hx; iintro Hx
  iapply (step_load_rect (mm := xbM) c rI1 rA1 (acc_sub cc0_scratch3 rI1 rA1 rI1_sub) (ids1 m c) (fun f h => h.2)) $$ Hx; iintro Hx
  iapply (step_wait m K c 1 [6, 7] (wpE_semWait_eq 𝒱₀ (c : Thread nD τ) none Set.univ) rfl (by decide)) $$ [HO T1]
  · isplitr; · iexact HR
    isplitl [HO]; · iexact HO
    iexact T1
  iintro ⟨HO, D1, Hp⟩
  iapply wpb_ret
  iapply Hk $$ [] [HO T11 D1 Hp Hx]
  · ipureintro; exact rfl
  · isplitl [HO]; · iexact HO
    isplitl [T11]; · iexact T11
    isplitl [D1]; · iexact D1
    isplitl [Hp]; · iexact Hp
    iexact Hx

end Cert.Moe
-- ==== Proof.Part4.lean ====
/-
The end of the body: the peer's parts added, the finished chunks stored and sent to the buddy, the buddy's stored.
-/
module

public import proofs.«01_k».proof.Proof.Pieces

@[expose] public section

set_option maxRecDepth 8000

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 18 → ℕ)

abbrev prog10 := k0_part10 (F := F) xM (Memref.isWhole_whole _) asM (Memref.isWhole_whole _) W1M (Memref.isWhole_whole _) W2M (Memref.isWhole_whole _) ouM (Memref.isWhole_whole _) w1M (Memref.isWhole_whole _) w2M (Memref.isWhole_whole _) xvM (Memref.isWhole_whole _) xbM (Memref.isWhole_whole _) rxM (Memref.isWhole_whole _) soM (Memref.isWhole_whole _) roM (Memref.isWhole_whole _) swM (Memref.isWhole_whole _) rsM (Memref.isWhole_whole _) cc0_scratch9 cc0_scratch10 cc0_scratch11 cc0_scratch12

abbrev prog11 := k0_part11 (F := F) xM (Memref.isWhole_whole _) asM (Memref.isWhole_whole _) W1M (Memref.isWhole_whole _) W2M (Memref.isWhole_whole _) ouM (Memref.isWhole_whole _) w1M (Memref.isWhole_whole _) w2M (Memref.isWhole_whole _) xvM (Memref.isWhole_whole _) xbM (Memref.isWhole_whole _) rxM (Memref.isWhole_whole _) soM (Memref.isWhole_whole _) roM (Memref.isWhole_whole _) swM (Memref.isWhole_whole _) rsM (Memref.isWhole_whole _) cc0_scratch9 cc0_scratch10 cc0_scratch11 cc0_scratch12

abbrev prog12 := k0_part12 (F := F) xM (Memref.isWhole_whole _) asM (Memref.isWhole_whole _) W1M (Memref.isWhole_whole _) W2M (Memref.isWhole_whole _) ouM (Memref.isWhole_whole _) w1M (Memref.isWhole_whole _) w2M (Memref.isWhole_whole _) xvM (Memref.isWhole_whole _) xbM (Memref.isWhole_whole _) rxM (Memref.isWhole_whole _) soM (Memref.isWhole_whole _) roM (Memref.isWhole_whole _) swM (Memref.isWhole_whole _) rsM (Memref.isWhole_whole _) cc0_scratch9 cc0_scratch10 cc0_scratch11 cc0_scratch12

abbrev prog13 := k0_part13 (F := F) xM (Memref.isWhole_whole _) asM (Memref.isWhole_whole _) W1M (Memref.isWhole_whole _) W2M (Memref.isWhole_whole _) ouM (Memref.isWhole_whole _) w1M (Memref.isWhole_whole _) w2M (Memref.isWhole_whole _) xvM (Memref.isWhole_whole _) xbM (Memref.isWhole_whole _) rxM (Memref.isWhole_whole _) soM (Memref.isWhole_whole _) roM (Memref.isWhole_whole _) swM (Memref.isWhole_whole _) rsM (Memref.isWhole_whole _) cc0_scratch9 cc0_scratch10 cc0_scratch11 cc0_scratch12

theorem run10 (c : Dev nD) (v5 v8 v9 v10 v21 : BitVec 32) {Q} :
    iprop(recs m K ∗ own c [6, 7]
        ∗ ticket c 4
        ∗ anyPts c ouM.view
        ∗ anyPts c (swM.access rB0))
      ⊢ iprop((∀ r, ⌜True⌝ -∗ (own c [6, 7]
          ∗ done c 4
          ∗ anyPts c (roM.access rB0)
          ∗ pts c ouM.view fullShare (U1 c m)
          ∗ valPts c (swM.access rB0) (swp0 m c)) -∗ Q r)
        -∗ wpb c (prog10 (F := F) c (xw c) v5 v8 v9 v10 v21 (own0 m c)) Q) := by
  unfold prog10
  simp only [k0_part10_eq_skeleton]; unfold k0_part10_skel
  simp only [semSignalWord, semWaitWord, Prog.lift, Prog.bind_op, Prog.bind_ret, Prog.pure_eq_ret, wp_deviceId]
  iintro ⟨#HR, HO, T4, Hu, Hs⟩ Hk
  iapply (step_wait m K c 4 [6, 7] (wpE_waitDma2_eq 𝒱₀ (c : Thread nD τ) none Set.univ) cr4 (by decide)) $$ [HO T4]
  · isplitr; · iexact HR
    isplitl [HO]; · iexact HO
    iexact T4
  iintro ⟨HO, D4, Hr⟩
  ihave Hr := (pay4 c m) $$ Hr
  iapply (step_load_rect (mm := roM) c rB0 rB0 (Finset.Subset.refl _) (sent0 m (peer c)) (fun f h => h)) $$ Hr; iintro Hr
  iapply (step_load_whole_any (mm := ouM) c (rO0 c)) $$ Hu; iintro %w Hu
  iapply (step_store_whole (mm := ouM) c (rO0 c) (U1 c m) (fun f _ => ⟨f, rfl⟩)) $$ Hu; iintro Hu
  iapply (step_load_any (mm := swM) c rB0 rB0 (Finset.Subset.refl _)) $$ Hs; iintro %w Hs
  iapply (step_store_rect (mm := swM) c rB0 rB0 (Finset.Subset.refl _) (fun f => (swM.access rB0).read (Elt F) f = swp0 m c) (fun f _ => View.read_write_univ _ _)) $$ Hs; iintro Hs
  ihave Hr := (pts_mono (v := roM.access rB0) c fun _ _ => trivial) $$ Hr
  iapply wpb_ret
  iapply Hk $$ [] [HO D4 Hr Hu Hs]
  · ipureintro; exact trivial
  · isplitl [HO]; · iexact HO
    isplitl [D4]; · iexact D4
    isplitl [Hr]; · iexact Hr
    isplitl [Hu]; · iexact Hu
    iexact Hs

theorem run11 (c : Dev nD) (v5 v8 v9 v10 v21 : BitVec 32) {Q} :
    iprop(recs m K ∗ own c [6, 7]
        ∗ ticket c 5
        ∗ pts c ouM.view fullShare (U1 c m)
        ∗ valPts c (swM.access rB0) (swp0 m c)
        ∗ anyPts c (swM.access rB1)
        ∗ anyPts (buddy c) (rsM.access rB0)
        ∗ tok c 12
        ∗ atp c 12
        ∗ tok (buddy c) 6)
      ⊢ iprop((∀ r, ⌜True⌝ -∗ (own c [7]
          ∗ ticket c 12
          ∗ done c 5
          ∗ anyPts c (roM.access rB1)
          ∗ pts c ouM.view fullShare (U2 c m)
          ∗ valPts c (swM.access rB1) (swp1 m c)) -∗ Q r)
        -∗ wpb c (prog11 (F := F) c (xw c) v5 v8 v9 v10 v21 (own1 m c)) Q) := by
  unfold prog11
  simp only [k0_part11_eq_skeleton]; unfold k0_part11_skel
  simp only [semSignalWord, semWaitWord, Prog.lift, Prog.bind_op, Prog.bind_ret, Prog.pure_eq_ret, wp_deviceId]
  iintro ⟨#HR, HO, T5, Hu, Hs, Hs1, Hd, Ht, Ha, Ht'⟩ Hk
  iapply (step_send m K c _ 6 12 [7] (dev7_eq c) (sm := swM.slice rB0 (fun _ => rfl)) (dm := rsM.slice rB0 (fun _ => rfl)) (q := fullShare)
    (P := fun f => (swM.access rB0).read (Elt F) f = swp0 m c) (P' := fun f => (rsM.access rB0).read (Elt F) f = swp0 m c) (fun fs fd h => (View.read_write_univ _ _).trans h) am6 amt12
    (pts_mono c fun _ _ => trivial) (buddyPay6 c m)) $$ [HO Hs Hd Ht Ha Ht']
  · isplitr; · iexact HR
    isplitl [HO]; · iexact HO
    isplitl [Hs]; · iexact Hs
    isplitl [Hd]; · iexact Hd
    isplitl [Ht]; · iexact Ht
    isplitl [Ha]; · iexact Ha
    iexact Ht'
  iintro ⟨HO, T12⟩
  iapply (step_wait m K c 5 [7] (wpE_waitDma2_eq 𝒱₀ (c : Thread nD τ) none Set.univ) cr5 (by decide)) $$ [HO T5]
  · isplitr; · iexact HR
    isplitl [HO]; · iexact HO
    iexact T5
  iintro ⟨HO, D5, Hr⟩
  ihave Hr := (pay5 c m) $$ Hr
  iapply (step_load_rect (mm := roM) c rB1 rB1 (Finset.Subset.refl _) (sent1 m (peer c)) (fun f h => h)) $$ Hr; iintro Hr
  iapply (step_load_whole_any (mm := ouM) c (rO1 c)) $$ Hu; iintro %w Hu
  iapply (step_store_whole (mm := ouM) c (rO1 c) (U2 c m) (fun f h => ⟨f, h, rfl⟩)) $$ Hu; iintro Hu
  iapply (step_load_any (mm := swM) c rB1 rB1 (Finset.Subset.refl _)) $$ Hs1; iintro %w Hs1
  iapply (step_store_rect (mm := swM) c rB1 rB1 (Finset.Subset.refl _) (fun f => (swM.access rB1).read (Elt F) f = swp1 m c) (fun f _ => View.read_write_univ _ _)) $$ Hs1; iintro Hs1
  ihave Hr := (pts_mono (v := roM.access rB1) c fun _ _ => trivial) $$ Hr
  iapply wpb_ret
  iapply Hk $$ [] [HO T12 D5 Hr Hu Hs1]
  · ipureintro; exact trivial
  · isplitl [HO]; · iexact HO
    isplitl [T12]; · iexact T12
    isplitl [D5]; · iexact D5
    isplitl [Hr]; · iexact Hr
    isplitl [Hu]; · iexact Hu
    iexact Hs1

theorem run12 (c : Dev nD) (v5 v10 v23 : BitVec 32) {Q} :
    iprop(recs m K ∗ own c [7]
        ∗ ticket c 6
        ∗ ticket c 7
        ∗ pts c ouM.view fullShare (U2 c m)
        ∗ valPts c (swM.access rB1) (swp1 m c)
        ∗ anyPts (buddy c) (rsM.access rB1)
        ∗ tok c 13
        ∗ atp c 13
        ∗ tok (buddy c) 7)
      ⊢ iprop((∀ r, ⌜r = oth1 m c⌝ -∗ (own c []
          ∗ ticket c 13
          ∗ done c 6
          ∗ done c 7
          ∗ anyPts c (rsM.access rB0)
          ∗ anyPts c (rsM.access rB1)
          ∗ pts c ouM.view fullShare (U3 c m)) -∗ Q r)
        -∗ wpb c (prog12 (F := F) c (xw c) v5 v10 v23) Q) := by
  unfold prog12
  simp only [k0_part12_eq_skeleton]; unfold k0_part12_skel
  simp only [semSignalWord, semWaitWord, Prog.lift, Prog.bind_op, Prog.bind_ret, Prog.pure_eq_ret, wp_deviceId]
  iintro ⟨#HR, HO, T6, T7, Hu, Hs, Hd, Ht, Ha, Ht'⟩ Hk
  iapply (step_send m K c _ 7 13 [] (dev8_eq c) (sm := swM.slice rB1 (fun _ => rfl)) (dm := rsM.slice rB1 (fun _ => rfl)) (q := fullShare)
    (P := fun f => (swM.access rB1).read (Elt F) f = swp1 m c) (P' := fun f => (rsM.access rB1).read (Elt F) f = swp1 m c) (fun fs fd h => (View.read_write_univ _ _).trans h) am7 amt13
    (pts_mono c fun _ _ => trivial) (buddyPay7 c m)) $$ [HO Hs Hd Ht Ha Ht']
  · isplitr; · iexact HR
    isplitl [HO]; · iexact HO
    isplitl [Hs]; · iexact Hs
    isplitl [Hd]; · iexact Hd
    isplitl [Ht]; · iexact Ht
    isplitl [Ha]; · iexact Ha
    iexact Ht'
  iintro ⟨HO, T13⟩
  iapply (step_wait m K c 6 [] (wpE_waitDma2_eq 𝒱₀ (c : Thread nD τ) none Set.univ) cr6 (by decide)) $$ [HO T6]
  · isplitr; · iexact HR
    isplitl [HO]; · iexact HO
    iexact T6
  iintro ⟨HO, D6, Hr⟩
  ihave Hr := (pay6 c m) $$ Hr
  iapply (step_load_rect (mm := rsM) c rB0 rB0 (Finset.Subset.refl _) (swp0 m (buddy c)) (fun f h => h)) $$ Hr; iintro Hr
  iapply (step_load_whole_any (mm := ouM) c (rO2 c)) $$ Hu; iintro %w Hu
  iapply (step_store_whole (mm := ouM) c (rO2 c) (U3 c m) (fun f h => ⟨f, h, rfl⟩)) $$ Hu; iintro Hu
  iapply (step_wait m K c 7 [] (wpE_waitDma2_eq 𝒱₀ (c : Thread nD τ) none Set.univ) cr7 (by decide)) $$ [HO T7]
  · isplitr; · iexact HR
    isplitl [HO]; · iexact HO
    iexact T7
  iintro ⟨HO, D7, Hr1⟩
  ihave Hr1 := (pay7 c m) $$ Hr1
  iapply (step_load_rect (mm := rsM) c rB1 rB1 (Finset.Subset.refl _) (swp1 m (buddy c)) (fun f h => h)) $$ Hr1; iintro Hr1
  ihave Hr := (pts_mono (v := rsM.access rB0) c fun _ _ => trivial) $$ Hr
  ihave Hr1 := (pts_mono (v := rsM.access rB1) c fun _ _ => trivial) $$ Hr1
  iapply wpb_ret
  iapply Hk $$ [] [HO T13 D6 D7 Hr Hr1 Hu]
  · ipureintro; exact rfl
  · isplitl [HO]; · iexact HO
    isplitl [T13]; · iexact T13
    isplitl [D6]; · iexact D6
    isplitl [D7]; · iexact D7
    isplitl [Hr]; · iexact Hr
    isplitl [Hr1]; · iexact Hr1
    iexact Hu

theorem run13 (c : Dev nD) (v23 : BitVec 32) {Q} :
    iprop(recs m K ∗ own c []
        ∗ ticket c 8
        ∗ ticket c 9
        ∗ ticket c 10
        ∗ ticket c 11
        ∗ pts c ouM.view fullShare (U3 c m))
      ⊢ iprop((∀ r, ⌜True⌝ -∗ (own c []
          ∗ done c 8
          ∗ done c 9
          ∗ done c 10
          ∗ done c 11
          ∗ pay m c 8
          ∗ pay m c 9
          ∗ pay m c 10
          ∗ pay m c 11
          ∗ pts c ouM.view fullShare (U4 c m)) -∗ Q r)
        -∗ wpb c (prog13 (F := F) c v23 (oth1 m c)) Q) := by
  unfold prog13
  simp only [k0_part13_eq_skeleton]; unfold k0_part13_skel
  simp only [semSignalWord, semWaitWord, Prog.lift, Prog.bind_op, Prog.bind_ret, Prog.pure_eq_ret, wp_deviceId]
  iintro ⟨#HR, HO, T8, T9, T10, T11, Hu⟩ Hk
  iapply (step_load_whole_any (mm := ouM) c (rO3 c)) $$ Hu; iintro %w Hu
  iapply (step_store_whole (mm := ouM) c (rO3 c) (U4 c m) (fun f h => ⟨f, h, rfl⟩)) $$ Hu; iintro Hu
  iapply (step_wait m K c 8 [] (wpE_waitDma2_eq 𝒱₀ (c : Thread nD τ) none Set.univ) cr8 (by decide)) $$ [HO T8]
  · isplitr; · iexact HR
    isplitl [HO]; · iexact HO
    iexact T8
  iintro ⟨HO, D8, P8⟩
  iapply (step_wait m K c 9 [] (wpE_waitDma2_eq 𝒱₀ (c : Thread nD τ) none Set.univ) cr9 (by decide)) $$ [HO T9]
  · isplitr; · iexact HR
    isplitl [HO]; · iexact HO
    iexact T9
  iintro ⟨HO, D9, P9⟩
  iapply (step_wait m K c 10 [] (wpE_waitDma2_eq 𝒱₀ (c : Thread nD τ) none Set.univ) cr10 (by decide)) $$ [HO T10]
  · isplitr; · iexact HR
    isplitl [HO]; · iexact HO
    iexact T10
  iintro ⟨HO, D10, P10⟩
  iapply (step_wait m K c 11 [] (wpE_waitDma2_eq 𝒱₀ (c : Thread nD τ) none Set.univ) cr11 (by decide)) $$ [HO T11]
  · isplitr; · iexact HR
    isplitl [HO]; · iexact HO
    iexact T11
  iintro ⟨HO, D11, P11⟩
  iapply wpb_ret
  iapply Hk $$ [] [HO D8 D9 D10 D11 P8 P9 P10 P11 Hu]
  · ipureintro; exact trivial
  · isplitl [HO]; · iexact HO
    isplitl [D8]; · iexact D8
    isplitl [D9]; · iexact D9
    isplitl [D10]; · iexact D10
    isplitl [D11]; · iexact D11
    isplitl [P8]; · iexact P8
    isplitl [P9]; · iexact P9
    isplitl [P10]; · iexact P10
    isplitl [P11]; · iexact P11
    iexact Hu

end Cert.Moe
-- ==== Proof.Body.lean ====
/-
The whole body, its thirteen parts one after the other.
-/
module

public import proofs.«01_k».proof.Proof.Part1
public import proofs.«01_k».proof.Proof.Part2
public import proofs.«01_k».proof.Proof.Part3
public import proofs.«01_k».proof.Proof.Part4

@[expose] public section

set_option maxRecDepth 8000

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 18 → ℕ)

omit [FloatOps F] in
theorem bigSep_fin18 (Φ : Fin 18 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17) :=
  bigSep_univ_eq_bigSepL [0, 1, 2, 3, 4, 5, 6, 7, 8, 9, 10, 11, 12, 13, 14, 15, 16, 17] (by decide) (by decide) Φ
omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-- The eight cells that other devices pay. -/
abbrev k8 (k : Fin 8) : Fin 18 := Fin.castLE (by decide) k

/-- The credits with which a device waits on the cells other devices pay. -/
def creds (c : Dev nD) : sProp 𝕄 := bigSep Finset.univ fun k : Fin 8 => cred (tallyAt (kcell (c, k8 k)) () (amt (k8 k)))

theorem mk_ticket (c : Dev nD) (k : Fin 18) : iprop(cred (tallyAt (kcell (c, k)) () (amt k)) ∗ atp (F := F) c k) ⊢ ticket c k := by
  unfold ticket; exact .refl

theorem wpb_bind {α β : Type} (c : Dev nD) (p : Prog (TpuEff nD τ sig (Elt F) Λ₀ .tc) β) (k : β → Prog (TpuEff nD τ sig (Elt F) Λ₀ .tc) α)
    (Q : α → sProp 𝕄) : wpb c p (fun a => wpb c (k a) Q) ⊢ wpb c (p >>= k) Q := by
  unfold wpb; rw [wp_bind]

/-- The device's nine scratch buffers, at any contents. -/
def scratch (c : Dev nD) : sProp 𝕄 :=
  iprop(anyPts c w1M.view ∗ anyPts c w2M.view ∗ anyPts c xvM.view ∗ anyPts c xbM.view ∗ anyPts c rxM.view ∗ anyPts c soM.view
    ∗ anyPts c roM.view ∗ anyPts c swM.view ∗ anyPts c rsM.view)

/-- The arguments the kernel copies from, at a share. -/
def argShares (q : PosShare TreeShare) (c : Dev nD) : sProp 𝕄 :=
  iprop(pts c xM.view q (isArg c m main_arg0) ∗ pts c W1M.view q (isArg c m main_arg2) ∗ pts c W2M.view q (isArg c m main_arg3))

abbrev body := cc0_body (F := F) xM (Memref.isWhole_whole _) asM (Memref.isWhole_whole _) W1M (Memref.isWhole_whole _) W2M (Memref.isWhole_whole _) ouM (Memref.isWhole_whole _) w1M (Memref.isWhole_whole _) w2M (Memref.isWhole_whole _) xvM (Memref.isWhole_whole _) xbM (Memref.isWhole_whole _) rxM (Memref.isWhole_whole _) soM (Memref.isWhole_whole _) roM (Memref.isWhole_whole _) swM (Memref.isWhole_whole _) rsM (Memref.isWhole_whole _) cc0_scratch9 cc0_scratch10 cc0_scratch11 cc0_scratch12

set_option maxHeartbeats 1600000 in
theorem run_body (c : Dev nD) (q : PosShare TreeShare) {Q : PUnit → sProp 𝕄} :
    iprop(recs m K ∗ own c dues ∗ (bigSep Finset.univ fun k : Fin 18 => atp c k) ∗ (bigSep Finset.univ fun k : Fin 18 => tok (src k c) k)
        ∗ creds c ∗ argShares m q c ∗ pts c asM.view fullShare (fun f => f = asn m c) ∗ anyPts c ouM.view ∗ scratch c)
      ⊢ iprop(((own c [] ∗ (bigSep Finset.univ fun k : Fin 18 => done c k) ∗ pts c asM.view fullShare (fun f => f = asn m c)
          ∗ pts c ouM.view fullShare (U4 c m) ∗ scratch c) -∗ Q ⟨⟩)
        -∗ wpb c (body (F := F)) Q) := by
  unfold body
  simp only [cc0_body_eq_skeleton]; unfold cc0_body_skel
  unfold creds argShares scratch
  rw [bigSep_fin18, bigSep_fin18, bigSep_fin18, bigSep_fin8]
  iintro ⟨#HR, HO, ⟨A0, A1, A2, A3, A4, A5, A6, A7, A8, A9, A10, A11, A12, A13, A14, A15, A16, A17⟩, ⟨K0, K1, K2, K3, K4, K5, K6, K7, K8, K9, K10, K11, K12, K13, K14, K15, K16, K17⟩, ⟨C0, C1, C2, C3, C4, C5, C6, C7⟩, ⟨Hx, HW1, HW2⟩, Has, Hu, ⟨Hw1, Hw2, Hxv, Hxb, Hrx, Hso, Hro, Hsw, Hrs⟩⟩ Hk
  ihave T0 := (mk_ticket c 0) $$ [C0 A0]
  · isplitl [C0]; · iexact C0
    iexact A0
  ihave T1 := (mk_ticket c 1) $$ [C1 A1]
  · isplitl [C1]; · iexact C1
    iexact A1
  ihave T2 := (mk_ticket c 2) $$ [C2 A2]
  · isplitl [C2]; · iexact C2
    iexact A2
  ihave T3 := (mk_ticket c 3) $$ [C3 A3]
  · isplitl [C3]; · iexact C3
    iexact A3
  ihave T4 := (mk_ticket c 4) $$ [C4 A4]
  · isplitl [C4]; · iexact C4
    iexact A4
  ihave T5 := (mk_ticket c 5) $$ [C5 A5]
  · isplitl [C5]; · iexact C5
    iexact A5
  ihave T6 := (mk_ticket c 6) $$ [C6 A6]
  · isplitl [C6]; · iexact C6
    iexact A6
  ihave T7 := (mk_ticket c 7) $$ [C7 A7]
  · isplitl [C7]; · iexact C7
    iexact A7
  ihave Hx := (pts_halve c q) $$ Hx; icases Hx with ⟨Hx0, Hx1⟩
  ihave Hx0 := (pts_sub (mm := xM) c (rX0 c)) $$ Hx0
  ihave Hx1 := (pts_sub (mm := xM) c (rX1 c)) $$ Hx1
  ihave HW1 := (pts_halve c q) $$ HW1; icases HW1 with ⟨-, HW1⟩
  ihave HW2 := (pts_halve c q) $$ HW2; icases HW2 with ⟨-, HW2⟩
  ihave Hxv := (pts_split c cc0_scratch2 rB0 rB1 rB_disj) $$ Hxv; icases Hxv with ⟨Hxv0, Hxv1⟩
  ihave Hrx := (pts_split c cc0_scratch4 rA0 rA1 rA_disj) $$ Hrx; icases Hrx with ⟨Hrx0, Hrx1⟩
  ihave Hso := (pts_split c cc0_scratch5 rB0 rB1 rB_disj) $$ Hso; icases Hso with ⟨Hso0, Hso1⟩
  ihave Hro := (pts_split c cc0_scratch6 rB0 rB1 rB_disj) $$ Hro; icases Hro with ⟨Hro0, Hro1⟩
  ihave Hsw := (pts_split c cc0_scratch7 rB0 rB1 rB_disj) $$ Hsw; icases Hsw with ⟨Hsw0, Hsw1⟩
  ihave Hrs := (pts_split c cc0_scratch8 rB0 rB1 rB_disj) $$ Hrs; icases Hrs with ⟨Hrs0, Hrs1⟩
  iapply wpb_bind
  iapply (run1 m K c q.left) $$ [Hx0 Hxv0 K16 A16]
  · isplitr; · iexact HR
    isplitl [Hx0]; · iexact Hx0
    isplitl [Hxv0]; · iexact Hxv0
    isplitl [K16]; · iexact K16
    iexact A16
  iintro %r %hr T16
  obtain ⟨d, v2, v5, v8, v9, v10, v21, v23⟩ := r
  obtain ⟨hd, hv⟩ := hr
  dsimp only at hd hv ⊢
  subst d v2
  iapply wpb_bind
  iapply (run2 m K c q.right _ _ _ _ _ _) $$ [HO Hx1 Hxv1 K17 A17 HW1 Hw1 K14 A14 HW2 Hw2 K15 A15 K0 Hrx0 Hrx1 Hro0 Hro1 K1 Hrs0 Hrs1 T0 T16 Has Hxb]
  · isplitr; · iexact HR
    isplitl [HO]; · iexact HO
    isplitl [Hx1 Hxv1 K17 A17]
    · isplitl [Hx1]; · iexact Hx1
      isplitl [Hxv1]; · iexact Hxv1
      isplitl [K17]; · iexact K17
      iexact A17
    isplitl [HW1 Hw1 K14 A14]
    · isplitl [HW1]; · iexact HW1
      isplitl [Hw1]; · iexact Hw1
      isplitl [K14]; · iexact K14
      iexact A14
    isplitl [HW2 Hw2 K15 A15]
    · isplitl [HW2]; · iexact HW2
      isplitl [Hw2]; · iexact Hw2
      isplitl [K15]; · iexact K15
      iexact A15
    isplitl [K0 Hrx0 Hrx1 Hro0 Hro1]
    · isplitl [K0]; · iexact K0
      isplitl [Hrx0]; · iexact Hrx0
      isplitl [Hrx1]; · iexact Hrx1
      isplitl [Hro0]; · iexact Hro0
      iexact Hro1
    isplitl [K1 Hrs0 Hrs1]
    · isplitl [K1]; · iexact K1
      isplitl [Hrs0]; · iexact Hrs0
      iexact Hrs1
    isplitl [T0]; · iexact T0
    isplitl [T16]; · iexact T16
    isplitl [Has]; · iexact Has
    iexact Hxb
  iintro ⟨HO, T17, T14, T15, D0, P0, D16, P16, Has, Hxb0, Hxb1⟩
  ihave P0 := (pay0 c m) $$ P0; icases P0 with ⟨Prx0, Prx1, Pro0, Pro1⟩
  iapply wpb_bind
  iapply (run3 m K c _ _ _) $$ [HO P16 T17 Hxb0 Hxb1 Prx0 K8 A8 K2]
  · isplitr; · iexact HR
    isplitl [HO]; · iexact HO
    isplitl [P16]; · iexact P16
    isplitl [T17]; · iexact T17
    isplitl [Hxb0]; · iexact Hxb0
    isplitl [Hxb1]; · iexact Hxb1
    isplitl [Prx0]; · iexact Prx0
    isplitl [K8]; · iexact K8
    isplitl [A8]; · iexact A8
    iexact K2
  iintro %r %hr ⟨HO, D17, T8, Hxv0, Hxv1, Hxb0, Hxb1⟩
  obtain ⟨v89, v90⟩ := r
  dsimp only
  iapply wpb_bind
  iapply (run4 m K c _ _ _) $$ [HO T14 T15 Hxb0 Hxb1 Prx1 K9 A9 K3]
  · isplitr; · iexact HR
    isplitl [HO]; · iexact HO
    isplitl [T14]; · iexact T14
    isplitl [T15]; · iexact T15
    isplitl [Hxb0]; · iexact Hxb0
    isplitl [Hxb1]; · iexact Hxb1
    isplitl [Prx1]; · iexact Prx1
    isplitl [K9]; · iexact K9
    isplitl [A9]; · iexact A9
    iexact K3
  iintro %r %hr ⟨HO, T9, D14, D15, Hw1, Hw2, Hxb0, Hxb1⟩
  subst hr
  dsimp only
  iapply wpb_bind
  iapply (run5 m K c _ _ _) $$ [HO T2]
  · isplitr; · iexact HR
    isplitl [HO]; · iexact HO
    iexact T2
  iintro %r %hr ⟨HO, D2, Hrx0⟩
  subst hr
  iapply wpb_bind
  iapply (run6 m K c) $$ [Hrx0 Hso0]
  · isplitr; · iexact HR
    isplitl [Hrx0]; · iexact Hrx0
    iexact Hso0
  iintro %r %hr ⟨Hrx0, Hso0⟩
  iapply wpb_bind
  iapply (run7 m K c _ _ _) $$ [HO T3 Hso0 Pro0 K10 A10 K4]
  · isplitr; · iexact HR
    isplitl [HO]; · iexact HO
    isplitl [T3]; · iexact T3
    isplitl [Hso0]; · iexact Hso0
    isplitl [Pro0]; · iexact Pro0
    isplitl [K10]; · iexact K10
    isplitl [A10]; · iexact A10
    iexact K4
  iintro %r %hr ⟨HO, T10, D3, Hrx1⟩
  subst hr
  dsimp only
  iapply wpb_bind
  iapply (run8 m K c _ _ _) $$ [Hso1]
  · isplitr; · iexact HR
    iexact Hso1
  iintro %r %hr Hso1
  iapply wpb_bind
  iapply (run9 m K c) $$ [HO T1 Hxb1 Hso1 Pro1 K11 A11 K5]
  · isplitr; · iexact HR
    isplitl [HO]; · iexact HO
    isplitl [T1]; · iexact T1
    isplitl [Hxb1]; · iexact Hxb1
    isplitl [Hso1]; · iexact Hso1
    isplitl [Pro1]; · iexact Pro1
    isplitl [K11]; · iexact K11
    isplitl [A11]; · iexact A11
    iexact K5
  iintro %r %hr ⟨HO, T11, D1, P1, Hxb1⟩
  subst hr
  ihave P1 := (pay1 c m) $$ P1; icases P1 with ⟨Prs0, Prs1⟩
  iapply wpb_bind
  iapply (run10 m K c _ _ _ _ _) $$ [HO T4 Hu Hsw0]
  · isplitr; · iexact HR
    isplitl [HO]; · iexact HO
    isplitl [T4]; · iexact T4
    isplitl [Hu]; · iexact Hu
    iexact Hsw0
  iintro %r %hr ⟨HO, D4, Hro0, Hu, Hsw0⟩
  iapply wpb_bind
  iapply (run11 m K c _ _ _ _ _) $$ [HO T5 Hu Hsw0 Hsw1 Prs0 K12 A12 K6]
  · isplitr; · iexact HR
    isplitl [HO]; · iexact HO
    isplitl [T5]; · iexact T5
    isplitl [Hu]; · iexact Hu
    isplitl [Hsw0]; · iexact Hsw0
    isplitl [Hsw1]; · iexact Hsw1
    isplitl [Prs0]; · iexact Prs0
    isplitl [K12]; · iexact K12
    isplitl [A12]; · iexact A12
    iexact K6
  iintro %r %hr ⟨HO, T12, D5, Hro1, Hu, Hsw1⟩
  iapply wpb_bind
  iapply (run12 m K c _ _ _) $$ [HO T6 T7 Hu Hsw1 Prs1 K13 A13 K7]
  · isplitr; · iexact HR
    isplitl [HO]; · iexact HO
    isplitl [T6]; · iexact T6
    isplitl [T7]; · iexact T7
    isplitl [Hu]; · iexact Hu
    isplitl [Hsw1]; · iexact Hsw1
    isplitl [Prs1]; · iexact Prs1
    isplitl [K13]; · iexact K13
    isplitl [A13]; · iexact A13
    iexact K7
  iintro %r %hr ⟨HO, T13, D6, D7, Hrs0, Hrs1, Hu⟩
  subst hr
  iapply wpb_bind
  iapply (run13 m K c _) $$ [HO T8 T9 T10 T11 Hu]
  · isplitr; · iexact HR
    isplitl [HO]; · iexact HO
    isplitl [T8]; · iexact T8
    isplitl [T9]; · iexact T9
    isplitl [T10]; · iexact T10
    isplitl [T11]; · iexact T11
    iexact Hu
  iintro %r %hr ⟨HO, D8, D9, D10, D11, P8, P9, P10, P11, Hu⟩
  simp only [Prog.lift, Prog.bind_op, Prog.bind_ret, Prog.pure_eq_ret]
  iapply (step_wait m K c 12 [] (wpE_waitDma2_eq 𝒱₀ (c : Thread nD τ) none Set.univ) cr12 (by decide)) $$ [HO T12]
  · isplitr; · iexact HR
    isplitl [HO]; · iexact HO
    iexact T12
  iintro ⟨HO, D12, P12⟩
  iapply (step_wait m K c 13 [] (wpE_waitDma2_eq 𝒱₀ (c : Thread nD τ) none Set.univ) cr13 (by decide)) $$ [HO T13]
  · isplitr; · iexact HR
    isplitl [HO]; · iexact HO
    iexact T13
  iintro ⟨HO, D13, P13⟩
  ihave P8 := (pay8 c m) $$ P8
  ihave P9 := (pay9 c m) $$ P9
  ihave P10 := (pay10 c m) $$ P10
  ihave P11 := (pay11 c m) $$ P11
  ihave P12 := (pay12 c m) $$ P12
  ihave P13 := (pay13 c m) $$ P13
  ihave Hxb0 := (pts_unhalve c fullShare) $$ [Hxb0 P8]
  · isplitl [Hxb0]; · iexact Hxb0
    iexact P8
  ihave Hxb1 := (pts_unhalve c fullShare) $$ [Hxb1 P9]
  · isplitl [Hxb1]; · iexact Hxb1
    iexact P9
  ihave Hxv := (pts_join c cc0_scratch2 rB0 rB1 rB_disj rB_union) $$ [Hxv0 Hxv1]
  · isplitl [Hxv0]; · iexact Hxv0
    iexact Hxv1
  ihave Hxb := (pts_join c cc0_scratch3 rA0 rA1 rA_disj rA_union) $$ [Hxb0 Hxb1]
  · isplitl [Hxb0]; · iexact Hxb0
    iexact Hxb1
  ihave Hrx := (pts_join c cc0_scratch4 rA0 rA1 rA_disj rA_union) $$ [Hrx0 Hrx1]
  · isplitl [Hrx0]; · iexact Hrx0
    iexact Hrx1
  ihave Hso := (pts_join c cc0_scratch5 rB0 rB1 rB_disj rB_union) $$ [P10 P11]
  · isplitl [P10]; · iexact P10
    iexact P11
  ihave Hro := (pts_join c cc0_scratch6 rB0 rB1 rB_disj rB_union) $$ [Hro0 Hro1]
  · isplitl [Hro0]; · iexact Hro0
    iexact Hro1
  ihave Hsw := (pts_join c cc0_scratch7 rB0 rB1 rB_disj rB_union) $$ [P12 P13]
  · isplitl [P12]; · iexact P12
    iexact P13
  ihave Hrs := (pts_join c cc0_scratch8 rB0 rB1 rB_disj rB_union) $$ [Hrs0 Hrs1]
  · isplitl [Hrs0]; · iexact Hrs0
    iexact Hrs1
  iapply wpb_ret
  iapply Hk $$ [HO D0 D1 D2 D3 D4 D5 D6 D7 D8 D9 D10 D11 D12 D13 D14 D15 D16 D17 Has Hu Hw1 Hw2 Hxv Hxb Hrx Hso Hro Hsw Hrs]
  · isplitl [HO]; · iexact HO
    isplitl [D0 D1 D2 D3 D4 D5 D6 D7 D8 D9 D10 D11 D12 D13 D14 D15 D16 D17]
    · isplitl [D0]; · iexact D0
      isplitl [D1]; · iexact D1
      isplitl [D2]; · iexact D2
      isplitl [D3]; · iexact D3
      isplitl [D4]; · iexact D4
      isplitl [D5]; · iexact D5
      isplitl [D6]; · iexact D6
      isplitl [D7]; · iexact D7
      isplitl [D8]; · iexact D8
      isplitl [D9]; · iexact D9
      isplitl [D10]; · iexact D10
      isplitl [D11]; · iexact D11
      isplitl [D12]; · iexact D12
      isplitl [D13]; · iexact D13
      isplitl [D14]; · iexact D14
      isplitl [D15]; · iexact D15
      isplitl [D16]; · iexact D16
      iexact D17
    isplitl [Has]; · iexact Has
    isplitl [Hu]; · iexact Hu
    isplitl [Hw1]; · iexact Hw1
    isplitl [Hw2]; · iexact Hw2
    isplitl [Hxv]; · iexact Hxv
    isplitl [Hxb]; · iexact Hxb
    isplitl [Hrx]; · iexact Hrx
    isplitl [Hso]; · iexact Hso
    isplitl [Hro]; · iexact Hro
    isplitl [Hsw]; · iexact Hsw
    iexact Hrs

end Cert.Moe
-- ==== Proof.Obligation.lean ====
/-
The body as the pipeline calls it: what it starts from, what it leaves, and that the run of the body leads from the one to
the other. At the end every semaphore's cell is closed and reads zero.
-/
module

public import proofs.«01_k».proof.Proof.Body

@[expose] public section

set_option maxRecDepth 8000

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device starts from -/

/-- The cells' invariants and rounds under some names, the positions of the device's own cells, the tokens it pays with. -/
def ghost (c : Dev nD) : sProp 𝕄 :=
  iprop(∃ K : Dev nD × Fin 18 → ℕ,
    (bigSep Finset.univ fun ck : Dev nD × Fin 18 => iprop(cellInv ER (rd m) (K ck) (kcell ck) ∗ reached ER (kcell ck) 0))
    ∗ (bigSep Finset.univ fun k : Fin 18 => atp (F := F) c k) ∗ (bigSep Finset.univ fun k : Fin 18 => tok (F := F) (src k c) k))

/-- With the levels, its credits and half a share of the arguments it copies from. -/
def start (c : Dev nD) : sProp 𝕄 :=
  iprop(ghost m c ∗ levs ∗ creds c ∗ argShares m fullShare.right c)

def Φ₀ (c : Dev nD) : sProp 𝕄 := iprop(start m c ∗ scratch c)
/-- After the body: the scratch buffers, and every cell's counter at zero. -/
def Φ₁ (c : Dev nD) : sProp 𝕄 := iprop((bigSep Finset.univ fun k : Fin 18 => semVal (kcell (c, k)) 0) ∗ scratch c)

def dats (_ : Fin 1) (c : Dev nD) : Dat τ (Elt F) Unit ℕ UU ℕ cfg0 c where
  A w := m ((cfg0.win w).arr.view.loc (c : Thread nD τ))
  after w _ := match w with
    | ⟨0, _⟩ => asn m c
    | ⟨1, _⟩ => outAt m c
  Φ t := match t with
    | ⟨0, _⟩ => Φ₀ m c
    | ⟨_ + 1, _⟩ => Φ₁ c
  q _ := fullShare
  owed t := match t with
    | ⟨0, _⟩ => owed c dues
    | ⟨_ + 1, _⟩ => 0

/-! ## The end of the body -/

variable (K : Dev nD × Fin 18 → ℕ)

/-- A cell whose one wait is over closes, and its counter reads zero. -/
theorem close_cell (c : Dev nD) (k : Fin 18) : iprop(recs m K ∗ done (F := F) c k) ⊢ |={Set.univ}=> (semVal (kcell (c, k)) 0 : sProp 𝕄) := by
  unfold done
  iintro ⟨#HR, Hd⟩
  ihave HI := (recs_at m K (c, k)) $$ HR
  icases HI with ⟨#HI, -⟩
  iapply (Rounds.cell_close ER (rd m) (κ := K (c, k)) (Set.mem_univ _) (fun h => h) (R := 0 + 1) (duties_later m (kcell (c, k))))
  isplitr; · iexact HI
  iexact Hd

theorem close_all (c : Dev nD) : iprop(recs m K ∗ bigSep Finset.univ fun k : Fin 18 => done (F := F) c k)
    ⊢ |={Set.univ}=> (bigSep Finset.univ fun k : Fin 18 => semVal (kcell (c, k)) 0 : sProp 𝕄) :=
  ((sep_mono_left (BI.bigSep_of_persistent Finset.univ (recs m K))).trans
    (by rw [← bigSep_sep']; exact bigSep_mono fun k _ => close_cell m K c k)).trans (bigSep_fupd _ _)

/-! ## The obligation -/

theorem fetch_0 (t : Fin cfg0.N) : (cfg0.win (0 : Fin 2)).fetch t = true := by rw [fin_N0 t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t0_0.castSucc
    ∗ (∃ d, stg c cc0_stg0_0 ((dats m 0 c).before (0 : Fin 2) t0_0 d))
    ∗ (∃ d, stg c cc0_stg1_0 ((dats m 0 c).before (1 : Fin 2) t0_0 d)))

def bodyPost (c : Dev nD) : sProp 𝕄 :=
  iprop(Φ₁ c ∗ (dats m 0 c).owesAt () t0_0.succ ∗ stg c cc0_stg0_0 (asn m c) ∗ stg c cc0_stg1_0 (outAt m c))

theorem before_0 (c : Dev nD) (d) : (dats m 0 c).before (0 : Fin 2) t0_0 d = asn m c := by
  unfold Dat.before; rw [if_pos (fetch_0 t0_0)]; rfl

/-- The run of the body ends in what the pipeline expects, the cells closed. -/
theorem body_end (c : Dev nD) :
    iprop(recs m K ∗ own c [] ∗ (bigSep Finset.univ fun k : Fin 18 => done c k) ∗ pts c asM.view fullShare (fun f => f = asn m c)
          ∗ pts c ouM.view fullShare (U4 c m) ∗ scratch c)
      ⊢ |={Set.univ}=> bodyPost m c := by
  rw [pts_whole, pts_whole]
  iintro ⟨#HR, Ho, Hd, ⟨%f, %hf, Ha⟩, ⟨%g, %hg, Hu⟩, Hs⟩
  imod (close_all m K c) $$ [Hd] with Hz
  · isplitr; · iexact HR
    iexact Hd
  imodintro
  unfold bodyPost Φ₁
  isplitl [Hz Hs]
  · isplitl [Hz] <;> iassumption
  isplitl [Ho]
  · unfold own Dat.owesAt Pipeline.owesWithin
    icases Ho with ⟨%W, HO⟩
    iexists W
    isplitr; · ipureintro; exact fun _ _ => Or.inl trivial
    iexact HO
  isplitl [Ha]
  · iexists f
    isplitr; · ipureintro; exact hf
    iexact Ha
  iexists g
  isplitr; · ipureintro; exact U4_out c m hg
  iexact Hu

theorem sound_body (c : Dev nD) : bodyPre m c ⊢ wpb c (body (F := F)) (fun _ => bodyPost m c) := by
  unfold bodyPre Φ₀ start ghost
  iintro ⟨⟨⟨⟨%K, #HR, Hat, Htok⟩, #HL, Hcr, Harg⟩, Hscr⟩, Ho, ⟨%d, %f, %hf, Ha⟩, ⟨%d', %g, -, Hu⟩⟩
  iapply (show wpb c (body (F := F)) (fun _ => iprop(|={Set.univ}=> bodyPost m c)) ⊢ wpb c (body (F := F)) (fun _ => bodyPost m c) from wp_fupd _ _ _ _ _)
  iapply (run_body m K c fullShare.right (Q := fun _ => iprop(|={Set.univ}=> bodyPost m c))) $$ [Ho Hat Htok Hcr Harg Ha Hu Hscr]
  · isplitr
    · unfold recs; isplitl; · iexact HR
      iexact HL
    isplitl [Ho]
    · unfold own Dat.owesAt Pipeline.owesWithin
      icases Ho with ⟨%W, -, HO⟩
      iexists W; iexact HO
    isplitl [Hat]; · iexact Hat
    isplitl [Htok]; · iexact Htok
    isplitl [Hcr]; · iexact Hcr
    isplitl [Harg]; · iexact Harg
    unfold anyPts
    rw [pts_whole, pts_whole]
    isplitl [Ha]
    · iexists f
      isplitr; · ipureintro; exact hf.trans (before_0 m c d)
      iexact Ha
    isplitl [Hu]
    · iexists g
      isplitr; · ipureintro; trivial
      iexact Hu
    iexact Hscr
  iintro H
  iapply (body_end m K c)
  isplitr
  · unfold recs; isplitl; · iexact HR
    iexact HL
  iexact H

theorem body_obligation (c : Dev nD) : BodyObligation (dats (F := F) m 0 c) (defs₀ (F := F)) 𝒱₀ () Set.univ := fun t => by
  rw [fin_N0 t]
  rw [bigSep_W0, bigSep_W0]
  simp only [owns_whole_eq]
  exact sound_body m c

end Cert.Moe

end
-- ==== Proof.Launch.lean ====
/-
The launch: the cells and tokens minted, every device's cells allocated, the tokens dealt to those who pay with them, the
credits from what the other devices owe; and the run of the whole program.
-/
module

public import proofs.«01_k».proof.Proof.Obligation
public import Idealize.ShloMosaic.Lib.Pipeline.ValueKit
public import Idealize.ShloMosaic.Lib.Quiescent
public import Idealize.ShloMosaic.Lib.Pipeline.CollectiveSegs

@[expose] public section

set_option maxRecDepth 8000

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The kernel's own semaphores, its cells and tokens -/

/-- All its semaphores but the runtime's. -/
abbrev osem (k : Fin 17) : SemLoc sig := csem k.succ

theorem ownSemFacts : Pipeline.OwnSemFacts cfg0.spec osem := by decide +kernel

theorem share_eq (c : Dev nD) (w : Fin cfg0.W) : (dats m 0 c).share w = fullShare := by unfold Dat.share; split <;> rfl

def ringCells : Finset (GSem nD τ sig) := Finset.univ.map ⟨kcell, kcell_inj⟩

abbrev tokOf (ck : Dev nD × Fin 18) : GSem nD τ sig × ℕ × Unit := (kcell ck, 0, ())
theorem tokOf_inj : Function.Injective tokOf := fun a b h => kcell_inj (congrArg Prod.fst h)
def ringToks : Finset (GSem nD τ sig × ℕ × Unit) := Finset.univ.map ⟨tokOf, tokOf_inj⟩

def u₀ : UU :=
  (initOf (Pipeline.cells cfgs cellOf_inj) (Pipeline.launchToks cfgs cellOf_inj), initOf ringCells ringToks)

/-- What the launch deals a device: its cells' states, its positions, its own cells' tokens. -/
def G (c : Dev nD) : sProp 𝕄 :=
  iprop((bigSep Finset.univ fun k : Fin 18 => roundState ER (rd m) (kcell (c, k)) 0)
    ∗ (bigSep Finset.univ fun k : Fin 18 => iprop(atp (F := F) c k ∗ reached ER (kcell (c, k)) 0))
    ∗ bigSep Finset.univ fun k : Fin 18 => tok (F := F) c k)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 18 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun k : Fin 18 => tok (F := F) c k := by
    unfold ringToks; rw [bigSep_map, bigSep_univ_prod]; rfl
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']
    · unfold atp; iexact Hat'
    iexact Hr'
  iexact Htok'

/-! ## The counters at zero -/

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun k : Fin 17 => semVal (kcell (c, k.succ)) 0 := rfl

omit [FloatOps F] in
theorem unscopedSems0_eq (c : Dev nD) : (unscopedSems0 c : sProp 𝕄) = semVal (kcell (c, 0)) 0 := by
  unfold unscopedSems0; rw [bigSep_eq_bigSepL_of_eq [SemLoc.reg barS] (by decide) (by decide)]; rfl

omit [FloatOps F] in
theorem bigSep_fin17 (Φ : Fin 17 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ

omit [FloatOps F] in
theorem sems0_eq (c : Dev nD) :
    (bigSep Finset.univ fun k : Fin 18 => semVal (kcell (c, k)) 0 : sProp 𝕄)
      = iprop(unscopedSems0 c ∗ Pipeline.ownSems0 (Ix := Unit) (Name := ℕ) (U := UU) (Lvl := ℕ) (Val := Elt F) (τ := τ) osem c) := by
  rw [ownSems0_eq, unscopedSems0_eq, bigSep_fin17, bigSep_fin18]; rfl

/-! ## The global step -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 18 => iprop(∃ κ : ℕ, cellInv ER (rd m) κ (kcell (c, k))))
          ∗ (bigSep Finset.univ fun k : Fin 18 => iprop(atp (F := F) c k ∗ reached ER (kcell (c, k)) 0)) ∗ bigSep Finset.univ fun k : Fin 18 => tok (F := F) c k) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Fin 18 => semVal (kcell (c, k)) 0) ∗ bigSep Finset.univ fun k : Fin 18 => roundState ER (rd m) (kcell (c, k)) 0)
      ⊢ (|={Set.univ}=> bigSep Finset.univ fun k : Fin 18 => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Paying goes both ways: the device that pays `c`'s cell `k` is the one whose cell `k` device `c` pays. -/
def around : Dev nD × Fin 18 ≃ Dev nD × Fin 18 where
  toFun ck := (src ck.2 ck.1, ck.2)
  invFun ck := (src ck.2 ck.1, ck.2)
  left_inv ck := by dsimp only; rw [src_src]
  right_inv ck := by dsimp only; rw [src_src]

omit [FloatOps F] in
theorem toks_around : (bigSep Finset.univ fun c : Dev nD => bigSep Finset.univ fun k : Fin 18 => tok (F := F) c k)
    = bigSep Finset.univ fun c : Dev nD => bigSep Finset.univ fun k : Fin 18 => tok (F := F) (src k c) k := by
  rw [← bigSep_univ_prod (fun ck : Dev nD × Fin 18 => tok (F := F) ck.1 ck.2), bigSep_univ_equiv around, bigSep_univ_prod]
  rfl

/-- The invariants and rounds of all cells, under names `K`. -/
def cellRecs (K : Dev nD × Fin 18 → ℕ) : sProp 𝕄 :=
  bigSep Finset.univ fun ck : Dev nD × Fin 18 => iprop(cellInv ER (rd m) (K ck) (kcell ck) ∗ reached ER (kcell ck) 0)

instance cellRecs_persistent (K : Dev nD × Fin 18 → ℕ) : BI.Persistent (cellRecs m K) := by unfold cellRecs; infer_instance

theorem ghost_intro (K : Dev nD × Fin 18 → ℕ) (c : Dev nD) :
    iprop(cellRecs m K ∗ (bigSep Finset.univ fun k : Fin 18 => atp (F := F) c k) ∗ bigSep Finset.univ fun k : Fin 18 => tok (F := F) (src k c) k)
      ⊢ ghost m c := by
  unfold ghost cellRecs
  iintro ⟨#HI, Ha, Ht⟩
  iexists K
  isplitr; · iexact HI
  isplitl [Ha] <;> iassumption

theorem regroup :
    (bigSep Finset.univ fun c : Dev nD => iprop((bigSep Finset.univ fun k : Fin 18 => iprop(∃ κ : ℕ, cellInv ER (rd m) κ (kcell (c, k))))
          ∗ (bigSep Finset.univ fun k : Fin 18 => iprop(atp (F := F) c k ∗ reached ER (kcell (c, k)) 0)) ∗ bigSep Finset.univ fun k : Fin 18 => tok (F := F) c k) : sProp 𝕄)
      ⊢ bigSep Finset.univ (ghost m) := by
  simp only [bigSep_sep']
  rw [toks_around, ← bigSep_univ_prod (fun ck : Dev nD × Fin 18 => iprop(∃ κ : ℕ, cellInv ER (rd m) κ (kcell ck))),
    ← bigSep_univ_prod (fun ck : Dev nD × Fin 18 => (reached ER (kcell ck) 0 : sProp 𝕄))]
  iintro ⟨HI, ⟨Hat, #HR⟩, Htok⟩
  ihave HK := (BI.bigSep_exists_pi Finset.univ (fun (ck : Dev nD × Fin 18) (κ : ℕ) => (cellInv ER (rd m) κ (kcell ck) : sProp 𝕄))) $$ HI
  icases HK with ⟨%K, #HI⟩
  iapply (show iprop(cellRecs m K ∗ bigSep Finset.univ fun c : Dev nD => iprop((bigSep Finset.univ fun k : Fin 18 => atp (F := F) c k)
      ∗ bigSep Finset.univ fun k : Fin 18 => tok (F := F) (src k c) k)) ⊢ bigSep Finset.univ (ghost m) from
    (sep_mono_left (BI.bigSep_of_persistent Finset.univ (cellRecs m K))).trans
      (by rw [← bigSep_sep']; exact bigSep_mono fun c _ => ghost_intro m K c))
  isplitr
  · unfold cellRecs; rw [bigSep_sep']
    isplitl; · iexact HI
    iexact HR
  rw [bigSep_sep']
  isplitl [Hat]; · iexact Hat
  iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (ghost m) :=
  ((bigSep_mono fun c _ => core_alloc m c).trans (bigSep_fupd _ _)).trans (BI.fupd_mono (regroup m))

/-! ## The launch credit -/

abbrev O₀ (c : Dev nD) : CellTallies nD τ sig Unit := owed c dues

theorem kcell_eq_iff (c d : Dev nD) (j k : Fin 18) : kcell (c, k) = kcell (src j d, j) ↔ j = k ∧ d = src k c := by
  constructor
  · intro h
    have h' := kcell_inj h
    have hk : k = j := congrArg Prod.snd h'
    subst hk
    refine ⟨rfl, ?_⟩
    rw [show c = src k d from congrArg Prod.fst h', src_src]
  · rintro ⟨rfl, rfl⟩
    rw [src_src]

/-- What device `d` owes device `c`'s cell `k`: what the cell counts, if `d` is the one who pays it. -/
theorem owed_at (d c : Dev nD) (k : Fin 18) (l : List (Fin 18)) (hl : l.Nodup) :
    owed d l (kcell (c, k)) () = if k ∈ l ∧ d = src k c then amt k else 0 := by
  induction l with
  | nil => simp [owed]
  | cons j l ih =>
    obtain ⟨hj, hl⟩ := List.nodup_cons.mp hl
    unfold owed
    rw [Pi.add_apply, Finsupp.add_apply, tallyAt_apply, ih hl]
    simp only [kcell_eq_iff]
    by_cases hd : d = src k c
    · by_cases hk : j = k
      · subst hk; simp [hj, hd]
      · have hk' : ¬ k = j := fun h => hk h.symm
        simp [hk, hk', hd]
    · simp [hd]

theorem launch_cell (c : Dev nD) (k : Fin 18) (hk : k ∈ dues) :
    tallyOn (kcell (c, k)) (launchCredit (Pipeline.owing O₀) 0 (kcell (c, k))) = (tallyAt (kcell (c, k)) () (amt k) : CellTallies nD τ sig Unit) := by
  unfold tallyAt; refine congrArg _ (Finsupp.ext fun u => ?_); cases u
  rw [Pipeline.launchCredit_owing, Finsupp.single_eq_same, Finset.sum_congr rfl fun d _ => owed_at d c k dues (by decide)]
  simp only [hk, true_and]
  rw [Finset.sum_ite_eq' Finset.univ (src k c) fun _ => amt k, if_pos (Finset.mem_univ _)]

theorem k8_dues (k : Fin 8) : k8 k ∈ dues := by revert k; decide
theorem csem8_inj : Function.Injective fun k : Fin 8 => csem (k8 k) := fun a b h => Fin.castLE_injective _ (csem_inj h)

theorem creds_intro (c : Dev nD) : (Pipeline.launchCred O₀ c : sProp 𝕄) ⊢ creds c := by
  unfold Pipeline.launchCred creds
  refine (bigSep_subset (Finset.subset_univ (Finset.univ.map ⟨fun k : Fin 8 => csem (k8 k), csem8_inj⟩))).trans ?_
  rw [bigSep_map]
  exact bigSep_mono fun k _ => Entails.of_eq (congrArg cred (launch_cell c (k8 k) (k8_dues k)))

/-! ## The sides -/

theorem pts_arg (c : Dev nD) (b : Ref sig .tc) :
    (((c : Thread nD τ).loc b) ↦{fullShare} m ((c : Thread nD τ).loc b) : sProp 𝕄) ⊢ pts c (Memref.whole b).view fullShare (isArg c m b) := by
  rw [pts_whole]
  iintro H
  iexists _
  isplitr; · ipureintro; rfl
  iexact H

theorem args_intro (c : Dev nD) :
    (Pipeline.unscopedRest (Ix := Unit) (Name := ℕ) (U := UU) (Lvl := ℕ) spec0 c (fun b => m ((c : Thread nD τ).loc b)) : sProp 𝕄)
      ⊢ iprop(argShares m fullShare.right c ∗ argShares m fullShare.left c) := by
  rw [unscopedRest0_eq]
  iintro ⟨H0, H2, H3⟩
  ihave H0 := (pts_arg m c main_arg0) $$ H0
  ihave H2 := (pts_arg m c main_arg2) $$ H2
  ihave H3 := (pts_arg m c main_arg3) $$ H3
  ihave H0 := (pts_halve c fullShare) $$ H0; icases H0 with ⟨L0, R0⟩
  ihave H2 := (pts_halve c fullShare) $$ H2; icases H2 with ⟨L2, R2⟩
  ihave H3 := (pts_halve c fullShare) $$ H3; icases H3 with ⟨L3, R3⟩
  unfold argShares
  isplitl [R0 R2 R3]
  · isplitl [R0]; · iexact R0
    isplitl [R2] <;> iassumption
  isplitl [L0]; · iexact L0
  isplitl [L2] <;> iassumption

theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ ghost m c)
      ⊢ |={Set.univ}=> iprop(start m c ∗ argShares m fullShare.left c) := by
  rw [Pipeline.unscopedRestP_none]
  iintro ⟨Hrest, Hlev, Hcr, -, HG⟩
  ihave Hc := (creds_intro (F := F) c) $$ Hcr
  ihave Ha := (args_intro m c) $$ Hrest
  icases Ha with ⟨HR, HL⟩
  imodintro
  unfold start levs
  isplitr [HL]
  · isplitl [HG]; · iexact HG
    isplitl [Hlev]; · iexact Hlev
    isplitl [Hc]; · iexact Hc
    iexact HR
  iexact HL

theorem any_eq (c : Dev nD) (b : Ref sig .tc) :
    anyPts (F := F) c (Memref.whole b).view = iprop(∃ f : Buf (Elt F) ((c : Thread nD τ).loc b), ((c : Thread nD τ).loc b) ↦{fullShare} f) := by
  have h1 : anyPts (F := F) c (Memref.whole b).view ⊢ iprop(∃ f : Buf (Elt F) ((c : Thread nD τ).loc b), ((c : Thread nD τ).loc b) ↦{fullShare} f) := by
    unfold anyPts
    rw [pts_whole]
    iintro ⟨%f, -, H⟩
    iexists f; iexact H
  have h2 : (iprop(∃ f : Buf (Elt F) ((c : Thread nD τ).loc b), ((c : Thread nD τ).loc b) ↦{fullShare} f) : sProp 𝕄) ⊢ anyPts (F := F) c (Memref.whole b).view := by
    unfold anyPts
    rw [pts_whole]
    iintro ⟨%f, H⟩
    iexists f
    isplitr; · ipureintro; trivial
    iexact H
  exact BI.equiv_iff.mp ⟨h1, h2⟩

theorem scratch_eq (c : Dev nD) :
    scratch (F := F) c = Pipeline.scopedRest (Ix := Unit) (Name := ℕ) (U := UU) (Lvl := ℕ) (Val := Elt F) spec0 c := by
  rw [scopedRest0_eq]
  unfold scratch
  rw [any_eq, any_eq, any_eq, any_eq, any_eq, any_eq, any_eq, any_eq, any_eq]

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  rw [scratch_eq]
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl]
  unfold Φ₁
  rw [scratch_eq, sems0_eq]
  iintro ⟨⟨Hu, Ho⟩, Hr⟩
  isplitl [Hu]; · iexact Hu
  isplitl [Ho]; · iexact Ho
  iexact Hr

/-- The waits of the staging copies: their semaphores are no cells of the exchange, hence lowest. -/
theorem waits (c : Dev nD) : (levAts L lv : sProp 𝕄) ⊢ Pipeline.cellsWaits cfgs (dats m) () 0 c :=
  Pipeline.cellsWaits_intro cfgs (dats m) () 0 c fun w s t => by
    have h0 : ∀ (w : Fin 2) (s : Fin (spec0 w).nbuf), kof (.dma ((spec0 w).sem s)) = none := by decide +kernel
    have hl : ∀ l : List (Fin 18), (∀ k ∈ l, 0 < lvk k) →
        (levAts L lv : sProp 𝕄) ⊢ MayWait (c : Thread nD τ) (.dma ((spec0 w).sem s)) () (owed c l) := fun l h =>
      mayWait c _ 0 l (by unfold lv; rw [h0 w s]) h
    rcases t with ⟨_ | _, ht⟩
    · exact hl dues (by decide)
    · exact hl [] (by decide)

/-! ## The run -/

/-- The final memory at a device's arguments other than the fetched one, and its semaphores. -/
def QY (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_arg2) = m ((c : Thread nD τ).loc main_arg2)
    ∧ s.mem ((c : Thread nD τ).loc main_arg3) = m ((c : Thread nD τ).loc main_arg3)

theorem read_arg (c : Dev nD) (b : Ref sig .tc) (q : PosShare TreeShare) (s : Phys nD τ sig (Elt F)) :
    iprop(SI s ∗ pts c (Memref.whole b).view q (isArg c m b)) ⊢ (⌜s.mem.mem ((c : Thread nD τ).loc b) = m ((c : Thread nD τ).loc b)⌝ : sProp 𝕄) := by
  rw [pts_whole]
  iintro ⟨HS, ⟨%f, %hf, H⟩⟩
  ihave %h := SI_pointsTo_agree $$ [HS H]
  · isplitl [HS] <;> iassumption
  ipureintro
  rw [← show f = m ((c : Thread nD τ).loc b) from hf]
  exact funext fun i => h i (Finset.mem_univ i)

theorem end_read (c : Dev nD) (s' : Phys nD τ sig (Elt F)) :
    iprop(unscopedSems0 c ∗ argShares m fullShare.left c ∗ SI s') ⊢ |={Set.univ}=> (iprop(⌜QY m c s'.mem⌝ ∗ SI s') : sProp 𝕄) := by
  unfold argShares
  iintro ⟨Hu, ⟨H0, H2, H3⟩, HSI⟩
  ihave %h0 := (read_arg m c main_arg0 _ s') $$ [HSI H0]
  · isplitl [HSI] <;> iassumption
  ihave %h2 := (read_arg m c main_arg2 _ s') $$ [HSI H2]
  · isplitl [HSI] <;> iassumption
  ihave %h3 := (read_arg m c main_arg3 _ s') $$ [HSI H3]
  · isplitl [HSI] <;> iassumption
  imod (Pipeline.unscopedSems0_read (X := unscopedSems0 c) (c := c) fupd_intro s') $$ [Hu HSI] with ⟨%hs, HSI⟩
  · isplitl [Hu] <;> iassumption
  imodintro
  isplitr; · ipureintro; exact ⟨hs, h0, h2, h3⟩
  iexact HSI

/-- The fetched argument is unchanged, and the result array holds what the body leaves. -/
theorem arr_in (c : Dev nD) : (dats m 0 c).arrAt (0 : Fin 2) cfg0.N = m ((c : Thread nD τ).loc main_arg1) :=
  (dats (F := F) m 0 c).arrAt_in (0 : Fin 2) rfl _

theorem arr_out (c : Dev nD) : (dats m 0 c).arrAt (1 : Fin 2) cfg0.N = outAt m c := by
  refine (dats m 0 c).arrAt_eq_of_after_last (1 : Fin 2) t0_0 (by decide +kernel) (outAt m c) fun j => ?_
  rfl

set_option maxRecDepth 8000 in
/-- From any memory with zero counters the program terminates on all devices; the result array of each holds `outAt`, the
    arguments are unchanged, every counter is zero. -/
theorem run_main (ρ : Dev nD → PrngReg) : θ_run (defs (F := F)) (onTc (τ := τ) (main (F := F))) ⟨m, fun _ => 0, ρ⟩ (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := ghost m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := argShares m fullShare.left)
    (hX := start_intro m ρ) (hin := phi0_intro m) (hout := phi1_exit m)
    (QY := QY m) (hY := end_read m)
    (hQ := fun _ h hs => ⟨fun c => ⟨((h c).1 (1 : Fin 2)).trans (arr_out m c), (h c).2.2.2.1, ((h c).1 (0 : Fin 2)).trans (arr_in m c),
      (h c).2.2.2.2.1, (h c).2.2.2.2.2⟩, sem_eq_zero hs fun c => (h c).2.2.1⟩)

end Cert.Moe

end
-- ==== Proof.Expert.lean ====
/-
What the layer computes for one token, on extended reals: one expert's output, the output of the expert the token is
assigned to, and how the kernel's two pairs of masked experts add up to it.
-/
module

public import proofs.«01_k».proof.Proof.Gen.KernelIdeal.Skeleton
public import Idealize.ShloMosaic.Lib.Pointwise

@[expose] public section

noncomputable section

namespace Cert.Moe

open Idealize.ShloMosaic

/-- Column `j` of one expert's output for a token `x`: a first matrix, the negative entries set to zero, a second matrix. -/
def expert (x : Fin 512 → EReal) (a : Fin 512 → Fin 1024 → EReal) (b : Fin 1024 → Fin 512 → EReal) (j : Fin 512) : EReal :=
  ∑ f : Fin 1024, max (∑ d : Fin 512, x d * a d f) 0 * b f j

/-- Column `j` of what the expert numbered by the word `n` answers to a token `x`; zero where no expert has the number. -/
def routed (x : Fin 512 → EReal) (n : BitVec 32) (a : Fin 4 → Fin 512 → Fin 1024 → EReal)
    (b : Fin 4 → Fin 1024 → Fin 512 → EReal) (j : Fin 512) : EReal :=
  if n = 3#32 then expert x (a 3) (b 3) j else if n = 2#32 then expert x (a 2) (b 2) j
  else if n = 1#32 then expert x (a 1) (b 1) j else if n = 0#32 then expert x (a 0) (b 0) j else 0

/-- A token of zeros gets zeros. -/
theorem expert_zero (a : Fin 512 → Fin 1024 → EReal) (b : Fin 1024 → Fin 512 → EReal) (j : Fin 512) :
    expert (fun _ => 0) a b j = 0 := by
  simp [expert]

/-- A token kept only where `p`: the expert's output kept only where `p`. -/
theorem expert_masked (p : Prop) [Decidable p] (x : Fin 512 → EReal) (a : Fin 512 → Fin 1024 → EReal)
    (b : Fin 1024 → Fin 512 → EReal) (j : Fin 512) :
    expert (fun d => if p then x d else 0) a b j = if p then expert x a b j else 0 := by
  by_cases h : p
  · simp only [h, if_true]
  · simp only [h, if_false]; exact expert_zero a b j

/-- What one device adds up for a token: its two experts, numbered from `n0` on, each on the token where it is meant. -/
def pairSum (x : Fin 512 → EReal) (n n0 : BitVec 32) (a : Fin 2 → Fin 512 → Fin 1024 → EReal)
    (b : Fin 2 → Fin 1024 → Fin 512 → EReal) (j : Fin 512) : EReal :=
  (if n = n0 then expert x (a 0) (b 0) j else 0) + (if n = n0 + 1#32 then expert x (a 1) (b 1) j else 0)

/-- The first pair's sum and the second's: the output of the token's own expert. -/
theorem pairSum_low (x : Fin 512 → EReal) (n : BitVec 32) (a : Fin 4 → Fin 512 → Fin 1024 → EReal)
    (b : Fin 4 → Fin 1024 → Fin 512 → EReal) (j : Fin 512) :
    pairSum x n 0#32 ![a 0, a 1] ![b 0, b 1] j + pairSum x n 2#32 ![a 2, a 3] ![b 2, b 3] j = routed x n a b j := by
  unfold pairSum routed
  by_cases h3 : n = 3#32
  · subst h3; simp
  by_cases h2 : n = 2#32
  · subst h2; simp
  by_cases h1 : n = 1#32
  · subst h1; simp
  by_cases h0 : n = 0#32
  · subst h0; simp
  simp [h0, h1, h2, h3]

/-- The same in the other order. -/
theorem pairSum_high (x : Fin 512 → EReal) (n : BitVec 32) (a : Fin 4 → Fin 512 → Fin 1024 → EReal)
    (b : Fin 4 → Fin 1024 → Fin 512 → EReal) (j : Fin 512) :
    pairSum x n 2#32 ![a 2, a 3] ![b 2, b 3] j + pairSum x n 0#32 ![a 0, a 1] ![b 0, b 1] j = routed x n a b j := by
  rw [add_comm]; exact pairSum_low x n a b j

/-- Whole numbers read as extended reals are equal only where their words are. -/
theorem words_eq (x y : BitVec 32) : (((x.toInt : ℝ) : EReal) = ((y.toInt : ℝ) : EReal)) ↔ x = y := by
  rw [EReal.coe_eq_coe_iff, Int.cast_inj, BitVec.toInt_inj]

end Cert.Moe

end
-- ==== Proof.Chunk.lean ====
/-
What one block of the kernel computes at the ideal instance: a chunk of 128 tokens through the device's two experts.
-/
module

public import proofs.«01_k».proof.Proof.Expert

@[expose] public section

set_option maxRecDepth 16384

noncomputable section

namespace Cert.Moe

open Cert.KernelIdeal Cert.KernelIdeal.Gen
open Idealize.ShloMosaic

/-- The device's own first chunk, at row `r` and column `j`, the row's expert number being the whole number `n`. -/
theorem pay10_apply (w n : BitVec 32) (a0 a1 : FVec Ideal S512x1024 .bf16) (b0 b1 : FVec Ideal S1024x512 .bf16)
    (t : Vec Ideal S128x512 .bf16) (i : Vec Ideal S128x1 .bf16) (r : Fin 128) (j : Fin 512)
    (hn : i (ix2 r 0) = ((n.toInt : ℝ) : EReal)) :
    k0_pay10 w a0 a1 b0 b1 t i k0_pay8 (k0_pay9 w) (ix2 r j)
      = pairSum (fun d => t (ix2 r d)) n (w * 2#32) ![fun d f => a0 (ix2 d f), fun d f => a1 (ix2 d f)]
          ![fun f q => b0 (ix2 f q), fun f q => b1 (ix2 f q)] j := by
  have z : (((0#32 : BitVec 32).toInt : ℝ) : EReal) = 0 := by simp
  have w0 : Scalar.addi (Scalar.muli w 2#32) 0#32 = w * 2#32 := by
    show w * 2#32 + 0#32 = w * 2#32; simp
  have w1 : Scalar.addi (Scalar.muli w 2#32) 1#32 = w * 2#32 + 1#32 := rfl
  pointwise [k0_pay10, k0_pay8, k0_pay9]
  rw [hn, w0, w1]
  simp only [z, words_eq]
  exact congrArg₂ (· + ·) (expert_masked _ _ (fun d f => a0 (ix2 d f)) (fun f q => b0 (ix2 f q)) j)
    (expert_masked _ _ (fun d f => a1 (ix2 d f)) (fun f q => b1 (ix2 f q)) j)

section Same

variable {F : FTy → Type} [FloatOps F] (w : BitVec 32) (a0 a1 : FVec F S512x1024 .bf16) (b0 b1 : FVec F S1024x512 .bf16)
  (t : Vec F S128x512 .bf16) (i : Vec F S128x1 .bf16)

/-- The device's own second chunk is computed as its first. -/
theorem pay16_eq : k0_pay16 w a0 a1 b0 b1 t i = k0_pay10 w a0 a1 b0 b1 t i k0_pay8 (k0_pay9 w) := rfl

/-- The peer's first chunk too, then narrowed to be sent. -/
theorem pay11_eq : k0_pay11 w a0 a1 b0 b1 t i
    = shapeCast S128x512 (truncf .bf16 (k0_pay10 w a0 a1 b0 b1 t i k0_pay8 (k0_pay9 w)) bitsLt_bf16_f32)
        shapeCasts_S128x512_S128x512 := rfl

/-- And the peer's second. -/
theorem pay15_eq : k0_pay15 w a0 a1 b0 b1 t i k0_pay12 (k0_pay13 w i) k0_pay14
    = shapeCast S128x512 (truncf .bf16 (k0_pay10 w a0 a1 b0 b1 t i k0_pay8 (k0_pay9 w)) bitsLt_bf16_f32)
        shapeCasts_S128x512_S128x512 := rfl

end Same

/-- A change of format and a reshape to the same shape change nothing at the ideal instance. -/
theorem narrow_apply (v : FVec Ideal S128x512 .f32) (r : Fin 128) (j : Fin 512) :
    shapeCast S128x512 (truncf .bf16 v bitsLt_bf16_f32) shapeCasts_S128x512_S128x512 (ix2 r j) = v (ix2 r j) := by
  pointwise

/-- A finished chunk: what the device added up itself and what its peer sent. -/
theorem pay17_apply (u : FVec Ideal S128x512 .f32) (v : Vec Ideal S128x512 .bf16) (r : Fin 128) (j : Fin 512) :
    k0_pay17 u v (ix2 r j) = u (ix2 r j) + v (ix2 r j) := by
  pointwise [k0_pay17]

theorem pay19_apply (u : FVec Ideal S128x512 .f32) (v : Vec Ideal S128x512 .bf16) (r : Fin 128) (j : Fin 512) :
    k0_pay19 u v (ix2 r j) = u (ix2 r j) + v (ix2 r j) := by
  pointwise [k0_pay19]

/-- A finished chunk as it goes to the buddy, and as the buddy stores it. -/
theorem pay18_apply (u : FVec Ideal S128x512 .f32) (v : Vec Ideal S128x512 .bf16) (r : Fin 128) (j : Fin 512) :
    k0_pay21 (k0_pay18 u v) (ix2 r j) = k0_pay17 u v (ix2 r j) := by
  pointwise [k0_pay21, k0_pay18]

theorem pay20_apply (u : FVec Ideal S128x512 .f32) (v : Vec Ideal S128x512 .bf16) (r : Fin 128) (j : Fin 512) :
    k0_pay22 (k0_pay20 u v) (ix2 r j) = k0_pay19 u v (ix2 r j) := by
  pointwise [k0_pay22, k0_pay20]

end Cert.Moe

end
-- ==== Proof.Rows.lean ====
/-
What one device adds up for a token at the ideal instance, row by row, over the contents of its argument arrays.
-/
module

public import proofs.«01_k».proof.Proof.Chunk
public import proofs.«01_k».proof.Proof.Contents

@[expose] public section

set_option maxRecDepth 2000

noncomputable section

namespace Cert.Moe

open Cert.KernelIdeal Cert.KernelIdeal.Gen
open Idealize.ShloMosaic
open Idealize.ShloMosaic.TcCoe

variable (m : (ℓ : Loc nD τ sig) → Buf (Elt Ideal) ℓ)

/-! ## The rows of a device -/

/-- Row `r` of a device's first chunk among its 512 rows. -/
def row0 (c : Dev nD) (r : Fin 128) : Fin 512 := ⟨256 * (c.val % 2) + r.val, by omega⟩
/-- Row `r` of its second chunk. -/
def row1 (c : Dev nD) (r : Fin 128) : Fin 512 := ⟨256 * (c.val % 2) + 128 + r.val, by omega⟩

/-- The expert numbers as staged are the argument: its one block is the whole array. -/
theorem asn_apply (c : Dev nD) (i : S512x1.Idx) : asn m c i = m ((c : Thread nD τ).loc main_arg1) i := by
  have h : asn m c i = m ((c : Thread nD τ).loc main_arg1) ((win0_0.rect (0 : Fin 1)).emb i) := rfl
  rw [h]; congr 1; funext a; apply Fin.ext
  fin_cases a <;> simp [Pipeline.Window.rect] <;> exact Or.inl rfl

theorem tok0_apply (c : Dev nD) (r : Fin 128) (d : Fin 512) :
    tok0 m c (ix2 r d) = m ((c : Thread nD τ).loc main_arg0) (ix2 (row0 c r) d) := by
  have h : tok0 m c (ix2 r d) = m ((c : Thread nD τ).loc main_arg0) ((rX0 c).emb (ix2 r d)) := by
    unfold tok0 xl0
    pointwise [k0_pay2]
    rfl
  rw [h]; congr 1; funext a; apply Fin.ext
  have o := off1_0 c
  fin_cases a <;> simp [o, row0, ix2] <;> omega

theorem tok1_apply (c : Dev nD) (r : Fin 128) (d : Fin 512) :
    tok1 m c (ix2 r d) = m ((c : Thread nD τ).loc main_arg0) (ix2 (row1 c r) d) := by
  have h : tok1 m c (ix2 r d) = m ((c : Thread nD τ).loc main_arg0) ((rX1 c).emb (ix2 r d)) := by
    unfold tok1 xl1
    pointwise [k0_pay3]
    rfl
  rw [h]; congr 1; funext a; apply Fin.ext
  have o := off1_1 c
  fin_cases a <;> simp [o, row1, ix2] <;> omega

theorem idcol_apply (c : Dev nD) (i : S256x1.Idx) :
    idcol m c i = (((asn m c ((rS c).emb i) : BitVec 32).toInt : ℝ) : EReal) := by
  unfold idcol
  idx_vars i
  pointwise [k0_pay1]
  rfl

theorem ids0_apply (c : Dev nD) (r : Fin 128) :
    ids0 m c (ix2 r 0) = (((m ((c : Thread nD τ).loc main_arg1) (ix2 (row0 c r) 0) : BitVec 32).toInt : ℝ) : EReal) := by
  unfold ids0
  rw [idcol_apply, asn_apply]; congr 4; funext a; apply Fin.ext
  have o := off2_0 c
  fin_cases a <;> simp [o, row0, ix2]

theorem ids1_apply (c : Dev nD) (r : Fin 128) :
    ids1 m c (ix2 r 0) = (((m ((c : Thread nD τ).loc main_arg1) (ix2 (row1 c r) 0) : BitVec 32).toInt : ℝ) : EReal) := by
  unfold ids1
  rw [idcol_apply, asn_apply]; congr 4; funext a; apply Fin.ext
  have o := off2_0 c
  fin_cases a <;> simp [o, row1, ix2] <;> omega

theorem w10_apply (c : Dev nD) (d : Fin 512) (f : Fin 1024) :
    w10 m c (ix2 d f) = m ((c : Thread nD τ).loc main_arg2) (ix3 0 d f) := by
  have h : w10 m c (ix2 d f) = m ((c : Thread nD τ).loc main_arg2) (rW0.emb (ix3 0 d f)) := by
    unfold w10
    pointwise [k0_pay4]
    rfl
  rw [h]; congr 1; funext a; apply Fin.ext
  fin_cases a <;> simp [ix3]

theorem w11_apply (c : Dev nD) (d : Fin 512) (f : Fin 1024) :
    w11 m c (ix2 d f) = m ((c : Thread nD τ).loc main_arg2) (ix3 1 d f) := by
  have h : w11 m c (ix2 d f) = m ((c : Thread nD τ).loc main_arg2) (rW1.emb (ix3 0 d f)) := by
    unfold w11
    pointwise [k0_pay5]
    rfl
  rw [h]; congr 1; funext a; apply Fin.ext
  fin_cases a <;> simp [ix3]

theorem w20_apply (c : Dev nD) (f : Fin 1024) (q : Fin 512) :
    w20 m c (ix2 f q) = m ((c : Thread nD τ).loc main_arg3) (ix3 0 f q) := by
  have h : w20 m c (ix2 f q) = m ((c : Thread nD τ).loc main_arg3) (rV0.emb (ix3 0 f q)) := by
    unfold w20
    pointwise [k0_pay6]
    rfl
  rw [h]; congr 1; funext a; apply Fin.ext
  fin_cases a <;> simp [ix3]

theorem w21_apply (c : Dev nD) (f : Fin 1024) (q : Fin 512) :
    w21 m c (ix2 f q) = m ((c : Thread nD τ).loc main_arg3) (ix3 1 f q) := by
  have h : w21 m c (ix2 f q) = m ((c : Thread nD τ).loc main_arg3) (rV1.emb (ix3 0 f q)) := by
    unfold w21
    pointwise [k0_pay7]
    rfl
  rw [h]; congr 1; funext a; apply Fin.ext
  fin_cases a <;> simp [ix3]

/-! ## What one device adds up -/

/-- Device `c`'s two experts on a token `x` of expert number `n`. -/
def devSum (c : Dev nD) (x : Fin 512 → EReal) (n : BitVec 32) (j : Fin 512) : EReal :=
  pairSum x n (xw c * 2#32)
    ![fun d f => m ((c : Thread nD τ).loc main_arg2) (ix3 0 d f), fun d f => m ((c : Thread nD τ).loc main_arg2) (ix3 1 d f)]
    ![fun f q => m ((c : Thread nD τ).loc main_arg3) (ix3 0 f q), fun f q => m ((c : Thread nD τ).loc main_arg3) (ix3 1 f q)] j

/-- A chunk of tokens `t` with expert numbers `i` through device `c`'s experts. -/
theorem through (c : Dev nD) (t : Vec Ideal S128x512 .bf16) (i : Vec Ideal S128x1 .bf16) (n : BitVec 32) (r : Fin 128)
    (j : Fin 512) (hn : i (ix2 r 0) = ((n.toInt : ℝ) : EReal)) :
    k0_pay10 (xw c) (w10 m c) (w11 m c) (w20 m c) (w21 m c) t i k0_pay8 (k0_pay9 (xw c)) (ix2 r j)
      = devSum m c (fun d => t (ix2 r d)) n j := by
  rw [pay10_apply _ n _ _ _ _ _ _ _ _ hn]
  unfold devSum
  simp only [w10_apply, w11_apply, w20_apply, w21_apply]

/-- Token `r` of a device's 512, and its expert number. -/
def token (c : Dev nD) (r : Fin 512) : Fin 512 → EReal := fun d => m ((c : Thread nD τ).loc main_arg0) (ix2 r d)
def number (c : Dev nD) (r : Fin 512) : BitVec 32 := m ((c : Thread nD τ).loc main_arg1) (ix2 r 0)

theorem own0_apply (c : Dev nD) (r : Fin 128) (j : Fin 512) :
    own0 m c (ix2 r j) = devSum m c (token m c (row0 c r)) (number m c (row0 c r)) j := by
  unfold own0
  rw [through m c _ _ _ r j (ids0_apply m c r)]
  simp only [tok0_apply]; rfl

theorem own1_apply (c : Dev nD) (r : Fin 128) (j : Fin 512) :
    own1 m c (ix2 r j) = devSum m c (token m c (row1 c r)) (number m c (row1 c r)) j := by
  unfold own1
  rw [pay16_eq, through m c _ _ _ r j (ids1_apply m c r)]
  simp only [tok1_apply]; rfl

theorem sent0_apply (c : Dev nD) (r : Fin 128) (j : Fin 512) :
    sent0 m c (ix2 r j) = devSum m c (token m (peer c) (row0 (peer c) r)) (number m (peer c) (row0 (peer c) r)) j := by
  unfold sent0
  rw [pay11_eq, narrow_apply, through m c _ _ _ r j (ids0_apply m (peer c) r)]
  simp only [tok0_apply]; rfl

theorem sent1_apply (c : Dev nD) (r : Fin 128) (j : Fin 512) :
    sent1 m c (ix2 r j) = devSum m c (token m (peer c) (row1 (peer c) r)) (number m (peer c) (row1 (peer c) r)) j := by
  unfold sent1
  rw [pay15_eq, narrow_apply, through m c _ _ _ r j (ids1_apply m (peer c) r)]
  simp only [tok1_apply]; rfl

end Cert.Moe

end
-- ==== Proof.Layer.lean ====
/-
What the kernel's result holds at one row and column at the ideal instance, where the devices hold their blocks of four
whole arrays: the output of the expert the row is assigned to.
-/
module

public import proofs.«01_k».proof.Proof.Rows

@[expose] public section

set_option maxRecDepth 2000

noncomputable section

namespace Cert.Moe

open Cert.KernelIdeal Cert.KernelIdeal.Gen
open Idealize.ShloMosaic
open Idealize.ShloMosaic.TcCoe

variable (m : (ℓ : Loc nD τ sig) → Buf (Elt Ideal) ℓ)

/-! ## The whole arrays -/

/-- A device's coordinate on the mesh axis along which the arrays are cut is 0 or 1. -/
theorem x_lt (c : Dev nD) : c.val / 16 < 2 := by revert c; decide +kernel

/-- Row `r` of a device's 512 among the 1024. -/
def wholeRow (c : Dev nD) (r : Fin 512) : Fin 1024 := ⟨512 * (c.val / 16) + r.val, by have := x_lt c; omega⟩
/-- Expert `e` of a device's two among the four. -/
def wholeExpert (c : Dev nD) (e : Fin 2) : Fin 4 := ⟨2 * (c.val / 16) + e.val, by have := x_lt c; omega⟩

/-- Every device holds its block of four whole arrays: tokens, expert numbers and the experts' two matrices. -/
structure Holds (X : FVec Ideal ⟨2, ![1024, 512]⟩ .f32) (N : IVec ⟨2, ![1024, 1]⟩ 32) (A : FVec Ideal ⟨3, ![4, 512, 1024]⟩ .f32)
    (B : FVec Ideal ⟨3, ![4, 1024, 512]⟩ .f32) : Prop where
  x : ∀ (c : Dev nD) (r d : Fin 512),
    m ((c : Thread nD τ).loc main_arg0) (ix2 r d) = X (ix2 (wholeRow c r) d)
  n : ∀ (c : Dev nD) (r : Fin 512),
    m ((c : Thread nD τ).loc main_arg1) (ix2 r 0) = N (ix2 (wholeRow c r) 0)
  a : ∀ (c : Dev nD) (e : Fin 2) (d : Fin 512) (f : Fin 1024),
    m ((c : Thread nD τ).loc main_arg2) (ix3 e d f) = A (ix3 (wholeExpert c e) d f)
  b : ∀ (c : Dev nD) (e : Fin 2) (f : Fin 1024) (q : Fin 512),
    m ((c : Thread nD τ).loc main_arg3) (ix3 e f q) = B (ix3 (wholeExpert c e) f q)

variable {m} {X : FVec Ideal ⟨2, ![1024, 512]⟩ .f32} {N : IVec ⟨2, ![1024, 1]⟩ 32}
  {A : FVec Ideal ⟨3, ![4, 512, 1024]⟩ .f32} {B : FVec Ideal ⟨3, ![4, 1024, 512]⟩ .f32}

theorem xw_low (c : Dev nD) : c.val / 16 = 0 → xw c * 2#32 = 0#32 := by revert c; decide +kernel
theorem xw_high (c : Dev nD) : c.val / 16 = 1 → xw c * 2#32 = 2#32 := by revert c; decide +kernel
theorem peer_low (c : Dev nD) : c.val / 16 = 0 → (peer c).val / 16 = 1 := by revert c; decide +kernel
theorem peer_high (c : Dev nD) : c.val / 16 = 1 → (peer c).val / 16 = 0 := by revert c; decide +kernel

/-- Expert `e` of a device is expert `k` of the four. -/
theorem block_a (h : Holds m X N A B) (c : Dev nD) (e : Fin 2) (k : Fin 4) (hk : 2 * (c.val / 16) + e.val = k.val) :
    (fun (d : Fin 512) (f : Fin 1024) => m ((c : Thread nD τ).loc main_arg2) (ix3 e d f)) = fun d f => A (ix3 k d f) :=
  funext fun d => funext fun f => (h.a c e d f).trans (congrArg (fun k => A (ix3 k d f)) (Fin.ext hk))

theorem block_b (h : Holds m X N A B) (c : Dev nD) (e : Fin 2) (k : Fin 4) (hk : 2 * (c.val / 16) + e.val = k.val) :
    (fun (f : Fin 1024) (q : Fin 512) => m ((c : Thread nD τ).loc main_arg3) (ix3 e f q)) = fun f q => B (ix3 k f q) :=
  funext fun f => funext fun q => (h.b c e f q).trans (congrArg (fun k => B (ix3 k f q)) (Fin.ext hk))

theorem devSum_low (h : Holds m X N A B) (c : Dev nD) (hc : c.val / 16 = 0) (x : Fin 512 → EReal) (n : BitVec 32) (j : Fin 512) :
    devSum m c x n j = pairSum x n 0#32 ![fun d f => A (ix3 0 d f), fun d f => A (ix3 1 d f)]
      ![fun f q => B (ix3 0 f q), fun f q => B (ix3 1 f q)] j := by
  unfold devSum
  rw [xw_low c hc, block_a h c 0 0 (by rw [hc]; rfl), block_a h c 1 1 (by rw [hc]; rfl), block_b h c 0 0 (by rw [hc]; rfl),
    block_b h c 1 1 (by rw [hc]; rfl)]

theorem devSum_high (h : Holds m X N A B) (c : Dev nD) (hc : c.val / 16 = 1) (x : Fin 512 → EReal) (n : BitVec 32) (j : Fin 512) :
    devSum m c x n j = pairSum x n 2#32 ![fun d f => A (ix3 2 d f), fun d f => A (ix3 3 d f)]
      ![fun f q => B (ix3 2 f q), fun f q => B (ix3 3 f q)] j := by
  unfold devSum
  rw [xw_high c hc, block_a h c 0 2 (by rw [hc]; rfl), block_a h c 1 3 (by rw [hc]; rfl), block_b h c 0 2 (by rw [hc]; rfl),
    block_b h c 1 3 (by rw [hc]; rfl)]

/-- A device and its peer between them have the four experts. -/
theorem both (h : Holds m X N A B) (c : Dev nD) (x : Fin 512 → EReal) (n : BitVec 32) (j : Fin 512) :
    devSum m c x n j + devSum m (peer c) x n j
      = routed x n (fun e d f => A (ix3 e d f)) (fun e f q => B (ix3 e f q)) j := by
  have hc : c.val / 16 = 0 ∨ c.val / 16 = 1 := by have := c.isLt; change c.val < 32 at this; omega
  rcases hc with hc | hc
  · rw [devSum_low h c hc, devSum_high h (peer c) (peer_low c hc)]
    exact pairSum_low x n (fun e d f => A (ix3 e d f)) (fun e f q => B (ix3 e f q)) j
  · rw [devSum_high h c hc, devSum_low h (peer c) (peer_high c hc)]
    exact pairSum_high x n (fun e d f => A (ix3 e d f)) (fun e f q => B (ix3 e f q)) j

/-- Row `r` and column `j` of the layer's result on the whole arrays. -/
def layer (X : FVec Ideal ⟨2, ![1024, 512]⟩ .f32) (N : IVec ⟨2, ![1024, 1]⟩ 32) (A : FVec Ideal ⟨3, ![4, 512, 1024]⟩ .f32)
    (B : FVec Ideal ⟨3, ![4, 1024, 512]⟩ .f32) (r : Fin 1024) (j : Fin 512) : EReal :=
  routed (fun d => X (ix2 r d)) (N (ix2 r 0)) (fun e d f => A (ix3 e d f)) (fun e f q => B (ix3 e f q)) j

/-- A device's token and its expert number are the whole arrays'. -/
theorem token_eq (h : Holds m X N A B) (c : Dev nD) (r : Fin 512) : token m c r = fun d => X (ix2 (wholeRow c r) d) :=
  funext fun d => h.x c r d
theorem number_eq (h : Holds m X N A B) (c : Dev nD) (r : Fin 512) : number m c r = N (ix2 (wholeRow c r) 0) := h.n c r

theorem full0_apply (h : Holds m X N A B) (c : Dev nD) (r : Fin 128) (j : Fin 512) :
    full0 m c (ix2 r j) = layer X N A B (wholeRow c (row0 c r)) j := by
  unfold full0
  rw [pay17_apply, own0_apply, sent0_apply, peer_peer, both h c]
  rw [token_eq h, number_eq h]; rfl

theorem full1_apply (h : Holds m X N A B) (c : Dev nD) (r : Fin 128) (j : Fin 512) :
    full1 m c (ix2 r j) = layer X N A B (wholeRow c (row1 c r)) j := by
  unfold full1
  rw [pay19_apply, own1_apply, sent1_apply, peer_peer, both h c]
  rw [token_eq h, number_eq h]; rfl

theorem oth0_apply (h : Holds m X N A B) (c : Dev nD) (r : Fin 128) (j : Fin 512) :
    oth0 m c (ix2 r j) = layer X N A B (wholeRow (buddy c) (row0 (buddy c) r)) j := by
  unfold oth0 swp0
  rw [pay18_apply]; exact full0_apply h (buddy c) r j

theorem oth1_apply (h : Holds m X N A B) (c : Dev nD) (r : Fin 128) (j : Fin 512) :
    oth1 m c (ix2 r j) = layer X N A B (wholeRow (buddy c) (row1 (buddy c) r)) j := by
  unfold oth1 swp1
  rw [pay20_apply]; exact full1_apply h (buddy c) r j

theorem buddy_x (c : Dev nD) : (buddy c).val / 16 = c.val / 16 := by revert c; decide +kernel
theorem buddy_half (c : Dev nD) : (buddy c).val % 2 = 1 - c.val % 2 := by revert c; decide +kernel

/-- The device's result, row by row and column by column: the layer's, on the device's 512 rows. -/
theorem outAt_apply (h : Holds m X N A B) (c : Dev nD) (r j : Fin 512) :
    outAt m c (ix2 r j) = layer X N A B (wholeRow c r) j := by
  have e : inChunk (ix2 r j) = ix2 (⟨r.val % 128, Nat.mod_lt _ (by decide)⟩ : Fin 128) j := by
    funext a; fin_cases a <;> rfl
  unfold outAt
  rw [e]
  have hr := r.isLt
  have h2 : c.val % 2 < 2 := Nat.mod_lt _ (by decide)
  change (if r.val / 128 = _ then _ else if r.val / 128 = _ then _ else if r.val / 128 = _ then _ else _) = _
  split
  · rename_i hb
    rw [full0_apply h]; congr 1; apply Fin.ext
    show 512 * (c.val / 16) + (256 * (c.val % 2) + r.val % 128) = 512 * (c.val / 16) + r.val
    omega
  split
  · rename_i hb
    rw [full1_apply h]; congr 1; apply Fin.ext
    show 512 * (c.val / 16) + (256 * (c.val % 2) + 128 + r.val % 128) = 512 * (c.val / 16) + r.val
    omega
  split
  · rename_i hb
    rw [oth0_apply h]; congr 1; apply Fin.ext
    show 512 * ((buddy c).val / 16) + (256 * ((buddy c).val % 2) + r.val % 128) = 512 * (c.val / 16) + r.val
    rw [buddy_x, buddy_half]; omega
  · rw [oth1_apply h]; congr 1; apply Fin.ext
    show 512 * ((buddy c).val / 16) + (256 * ((buddy c).val % 2) + 128 + r.val % 128) = 512 * (c.val / 16) + r.val
    rw [buddy_x, buddy_half]; omega

end Cert.Moe

end
-- ==== Proof.Reference.lean ====
/-
What the reference computes at one row and column: the output of the expert the row is assigned to.
-/
module

public import proofs.«01_k».proof.Proof.Expert
public import proofs.«01_k».proof.Proof.Gen.ReferenceIdeal.Run

@[expose] public section

set_option maxRecDepth 16384

noncomputable section

namespace Cert.Moe

open Cert.ReferenceIdeal Cert.ReferenceIdeal.Gen
open Idealize.ShloMosaic Idealize.SL.Sem

variable (x : FVec Ideal S1024x512 .f32) (n : IVec S1024x1 32) (a : FVec Ideal S4x512x1024 .f32)
  (b : FVec Ideal S4x1024x512 .f32)

/-- Expert number `k` on every token: the reference's two products, with the negative entries between them set to zero. -/
abbrev expertAll (k : Nat) (ha : S4x512x1024.Slices ![k, 0, 0] S1x512x1024) (hb : S4x1024x512.Slices ![k, 0, 0] S1x1024x512) :
    FVec Ideal S1024x512 .f32 :=
  Host.dotGeneral dot_S1024x1024_S1024x512_S1024x512_1_0_0_1_n_n none
    (maximumf (Host.dotGeneral dot_S1024x512_S512x1024_S1024x1024_1_0_0_1_n_n none x
        (shapeCast S512x1024 (extractStridedSlice S1x512x1024 ![k, 0, 0] a ha) shapeCasts_S1x512x1024_S512x1024))
      (broadcastInDim S1024x1024 ![] bcast_S_S1024x1024 (constant S_ .f32 0x00000000#32)))
    (shapeCast S1024x512 (extractStridedSlice S1x1024x512 ![k, 0, 0] b hb) shapeCasts_S1x1024x512_S1024x512)

/-- The rows assigned to expert `k`: `u` there, `v` elsewhere. -/
abbrev pick (k : BitVec 32) (u v : FVec Ideal S1024x512 .f32) : FVec Ideal S1024x512 .f32 :=
  select (broadcastInDim S1024x512 ![0, 1] bcast_S1024x1_S1024x512_0_1
    (cmpi .eq n (broadcastInDim S1024x1 ![] bcast_S_S1024x1 (constantI S_ 32 k)))) u v

/-- The reference's result of its four arguments. -/
def refOut : FVec Ideal S1024x512 .f32 :=
  pick n 3#32 (expertAll x a b 3 slices_S4x512x1024_S1x512x1024_3_0_0 slices_S4x1024x512_S1x1024x512_3_0_0)
    (pick n 2#32 (expertAll x a b 2 slices_S4x512x1024_S1x512x1024_2_0_0 slices_S4x1024x512_S1x1024x512_2_0_0)
      (pick n 1#32 (expertAll x a b 1 slices_S4x512x1024_S1x512x1024_1_0_0 slices_S4x1024x512_S1x1024x512_1_0_0)
        (pick n 0#32 (expertAll x a b 0 slices_S4x512x1024_S1x512x1024_0_0_0 slices_S4x1024x512_S1x1024x512_0_0_0)
          (broadcastInDim S1024x512 ![] bcast_S_S1024x512 (constant S_ .f32 0x00000000#32)))))

/-- Choosing by whether two words are equal. -/
theorem select_eq_words (k l : BitVec 32) (u v : EReal) :
    Scalar.select (IntOp.cmpi .eq k l) u v = if k = l then u else v := by
  by_cases h : k = l
  · simp [Scalar.select, IntOp.cmpi, h]
  · simp [Scalar.select, IntOp.cmpi, h, beq_eq_false_iff_ne.mpr h]

/-- At row `r` and column `j`: the assigned expert's output for token `r`. -/
theorem refOut_apply (r : Fin 1024) (j : Fin 512) :
    refOut x n a b (ix2 r j) = routed (fun d => x (ix2 r d)) (n (ix2 r 0)) (fun e d f => a (ix3 e d f))
      (fun e f q => b (ix3 e f q)) j := by
  unfold routed expert
  pointwise [refOut]
  simp only [select_eq_words]

/-- The reference's run ends with its result at `refOut` of its arguments, which it leaves unchanged. -/
theorem run_reference (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v44)
          = refOut (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run m ρ

end Cert.Moe

end
-- ==== Proof.Equation.lean ====
/-
The equation of the two programs: each device's result is its block of the reference's result on the whole arrays.
-/
module

public import proofs.«01_k».proof.Defs
public import proofs.«01_k».proof.Proof.Layer
public import proofs.«01_k».proof.Proof.Reference

@[expose] public section

set_option maxRecDepth 4000

noncomputable section

namespace Cert.Moe

open Cert.KernelIdeal Cert.KernelIdeal.Gen
open Idealize.ShloMosaic
open Idealize.ShloMosaic.TcCoe

/-- The block a device holds along the axis cut in two. -/
theorem block_x (c : Dev nD) : Layout.meshLin [2, 4, 4] c.val [0] = c.val / 16 := by revert c; decide +kernel

section Blocks

variable {α : Type} (c : Dev nD)

/-- A device's rows of a matrix cut along its rows. -/
theorem block_rows {n : Nat} (v : (⟨2, ![1024, n]⟩ : Shape).Idx → α)
    (h : Layout.TilesN ⟨2, ![512, n]⟩ ⟨2, ![1024, n]⟩ fun b => Layout.cutSize [2, 4, 4] ((![[0], []] : Fin 2 → List Nat) b))
    (r : Fin 512) (j : Fin n) :
    Layout.blockN ⟨2, ![512, n]⟩ ⟨2, ![1024, n]⟩ (Layout.meshBlock [2, 4, 4] ![[0], []] c) v h (ix2 r j)
      = v (ix2 (wholeRow c r) j) := by
  refine congrArg v ?_
  funext a; apply Fin.ext
  rw [Layout.TilesN.idx_val]
  fin_cases a
  · show Layout.meshLin [2, 4, 4] c.val [0] * 512 + r.val = 512 * (c.val / 16) + r.val
    rw [block_x]; omega
  · show 0 * n + j.val = j.val
    omega

/-- A device's experts of a stack of matrices cut along the experts. -/
theorem block_experts {n k : Nat} (v : (⟨3, ![4, n, k]⟩ : Shape).Idx → α)
    (h : Layout.TilesN ⟨3, ![2, n, k]⟩ ⟨3, ![4, n, k]⟩ fun b => Layout.cutSize [2, 4, 4] ((![[0], [], []] : Fin 3 → List Nat) b))
    (e : Fin 2) (i : Fin n) (j : Fin k) :
    Layout.blockN ⟨3, ![2, n, k]⟩ ⟨3, ![4, n, k]⟩ (Layout.meshBlock [2, 4, 4] ![[0], [], []] c) v h (ix3 e i j)
      = v (ix3 (wholeExpert c e) i j) := by
  refine congrArg v ?_
  funext a; apply Fin.ext
  rw [Layout.TilesN.idx_val]
  fin_cases a
  · show Layout.meshLin [2, 4, 4] c.val [0] * 2 + e.val = 2 * (c.val / 16) + e.val
    rw [block_x]; omega
  · show 0 * n + i.val = i.val
    omega
  · show 0 * k + j.val = j.val
    omega

end Blocks

variable {m : (ℓ : Loc nD τ sig) → Buf (Elt Ideal) ℓ} {X : FVec Ideal ⟨2, ![1024, 512]⟩ .f32} {N : IVec ⟨2, ![1024, 1]⟩ 32}
  {A : FVec Ideal ⟨3, ![4, 512, 1024]⟩ .f32} {B : FVec Ideal ⟨3, ![4, 1024, 512]⟩ .f32}

/-- The kernel's result on a device is the device's block of the reference's. -/
theorem outAt_eq (h : Holds m X N A B) (c : Dev nD) :
    outAt m c = Layout.blockN ⟨2, ![512, 512]⟩ ⟨2, ![1024, 512]⟩ (Layout.meshBlock [2, 4, 4] ![[0], []] c)
      (refOut X N A B) := by
  funext i
  obtain ⟨r, j, rfl⟩ : ∃ (r j : Fin 512), i = ix2 r j := ⟨i 0, i 1, eq_ix2 i⟩
  rw [outAt_apply h, block_rows, refOut_apply]
  rfl

/-- Memories that agree with the whole arrays block by block. -/
theorem holds_of_blocks
    (h : ∀ c : Dev nD,
      m ((c : Thread nD τ).loc main_arg0)
          = Layout.blockN ⟨2, ![512, 512]⟩ ⟨2, ![1024, 512]⟩ (Layout.meshBlock [2, 4, 4] ![[0], []] c) X
      ∧ m ((c : Thread nD τ).loc main_arg1)
          = Layout.blockN ⟨2, ![512, 1]⟩ ⟨2, ![1024, 1]⟩ (Layout.meshBlock [2, 4, 4] ![[0], []] c) N
      ∧ m ((c : Thread nD τ).loc main_arg2)
          = Layout.blockN ⟨3, ![2, 512, 1024]⟩ ⟨3, ![4, 512, 1024]⟩ (Layout.meshBlock [2, 4, 4] ![[0], [], []] c) A
      ∧ m ((c : Thread nD τ).loc main_arg3)
          = Layout.blockN ⟨3, ![2, 1024, 512]⟩ ⟨3, ![4, 1024, 512]⟩ (Layout.meshBlock [2, 4, 4] ![[0], [], []] c) B) :
    Holds m X N A B where
  x c r d := (congrFun (h c).1 (ix2 r d)).trans (block_rows c X _ r d)
  n c r := (congrFun (h c).2.1 (ix2 r 0)).trans (block_rows c N _ r 0)
  a c e d f := (congrFun (h c).2.2.1 (ix3 e d f)).trans (block_experts c A _ e d f)
  b c e f q := (congrFun (h c).2.2.2 (ix3 e f q)).trans (block_experts c B _ e f q)

end Cert.Moe

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Equation
public import Idealize.ShloMosaic.Adequacy
public import Idealize.ShloMosaic.Init

@[expose] public section

noncomputable section

namespace Cert.Proof

open Idealize.ShloMosaic Idealize.SL.Sem Cert.Kernel

set_option maxRecDepth 65536 in
/-- The two printed kernels have one table of bodies: they are the same text. -/
theorem tables_eq : Cert.Kernel.defs₀ (F := Bits) = Cert.KernelIdeal.defs₀ (F := Bits) := by
  unfold Cert.Kernel.defs₀ Cert.KernelIdeal.defs₀
  congr 1
  funext l a
  match l, a with
  | 0, (_, _) => rfl

/-- Hence one table of definitions. -/
theorem defs_eq : Cert.Kernel.defs (F := Bits) = Cert.KernelIdeal.defs (F := Bits) :=
  congrArg (Pipeline.defs (Cert.Kernel.pcfgs (F := Bits))) tables_eq

/-- The kernel's frame at the bit-exact instance: the run of Proof/Launch.lean, its values dropped. -/
theorem frame_kernel : Cert.quiescent_Kernel := fun m ρ _ => by
  rw [defs_eq]
  exact (θ_run Cert.KernelIdeal.defs _ _).mono (fun _ h => ⟨fun c => (h.1 c).2, h.2⟩)
    (Cert.Moe.run_main (F := Bits) m ρ)

/-- The kernel's frame at the ideal instance: the same run. -/
theorem frame_kernelIdeal : Cert.quiescent_KernelIdeal := fun m ρ _ =>
  (θ_run Cert.KernelIdeal.defs _ _).mono (fun _ h => ⟨fun c => (h.1 c).2, h.2⟩) (Cert.Moe.run_main (F := Ideal) m ρ)

/-- The reference's frame: its host operations write none of the arguments and it declares no semaphore. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- The value claim: the shared value is the reference's result of its arguments; each device of the kernel ends with
    its block of it. -/
theorem algebraic : Cert.algebraic_KernelIdeal_ReferenceIdeal := fun m ρ m' ρ' _ hagree =>
  ⟨Cert.Moe.refOut (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1))
      (m' (((0 : Dev Cert.ReferenceIdeal.nD).tc : Thread _ Cert.ReferenceIdeal.τ).loc Cert.ReferenceIdeal.main_arg2))
      (m' (((0 : Dev Cert.ReferenceIdeal.nD).tc : Thread _ Cert.ReferenceIdeal.τ).loc Cert.ReferenceIdeal.main_arg3)),
    (θ_run Cert.KernelIdeal.defs _ _).mono
      (fun _ h c => ⟨(h.1 c).1.trans (Cert.Moe.outAt_eq (Cert.Moe.holds_of_blocks hagree) c), (h.1 c).2⟩)
      (Cert.Moe.run_main (F := Ideal) m ρ),
    (θ_run Cert.ReferenceIdeal.defs _ _).mono (fun _ h => h 0) (Cert.Moe.run_reference m' ρ')⟩

/-- `Cert.Claim` (Defs.lean). -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
